-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  bcast_S_S768x2048 : S_.BroadcastsInDim S768x2048 (![] : Fin 0 → Fin S768x2048.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x2048 .f32) (main_arg2 : FVec F S2x512x8x64 .f32) (main_arg3 : FVec F S2x512x8x64 .f32) (main_arg4 : FVec F S2048x768 .f32) : IVec S2x512x768 1 × IVec S768x2048 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x2048 .f32 := Host.absf main_arg1
  let main_cst_0 : FVec F S_ .f32 := constant S_ .f32 0x7F800000#32
  let main_v4 : FVec F S768x2048 .f32 := broadcastInDim S768x2048 ![] bcast_S_S768x2048 main_cst_0
  let main_v5 : IVec S768x2048 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_scores_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  bcast_S_S768x2048 : S_.BroadcastsInDim S768x2048 (![] : Fin 0 → Fin S768x2048.rank)
  bcast_S_S2x512x32x64 : S_.BroadcastsInDim S2x512x32x64 (![] : Fin 0 → Fin S2x512x32x64.rank)

variable [Facts]

def fn {F : FTy → Type} [FloatOps F] (main_arg0 : FVec F S2x512x768 .f32) (main_arg1 : FVec F S768x2048 .f32) (main_arg2 : FVec F S2x512x32x64 .f32) (main_arg3 : FVec F S2x512x32x64 .f32) (main_arg4 : FVec F S2048x768 .f32) : IVec S2x512x768 1 × IVec S768x2048 1 × IVec S2x512x32x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x2048 .f32 := Host.absf main_arg1
  let main_cst_0 : FVec F S_ .f32 := constant S_ .f32 0x7F800000#32
  let main_v4 : FVec F S768x2048 .f32 := broadcastInDim S768x2048 ![] bcast_S_S768x2048 main_cst_0
  let main_v5 : IVec S768x2048 1 := cmpf .olt main_v3 main_v4
  let main_v6 : FVec F S2x512x32x64 .f32 := Host.absf main_arg2
  let main_cst_1 : FVec F S_ .f32 := constant S_ .f32 0x7F800000#32
  let main_v7 : FVec F S2x512x32x64 .f32 := broadcastInDim S2x512x32x64 ![] bcast_S_S2x512x32x64 main_cst_1
  let main_v8 : IVec S2x512x32x64 1 := cmpf .olt main_v6 main_v7
  (main_v2, main_v5, main_v8)
-- ==== Kernel.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S6x2x128x384 : Shape := ⟨4, ![6, 2, 128, 384]⟩
abbrev S6 : Shape := ⟨1, ![6]⟩
abbrev S_ : Shape := ⟨0, ![]⟩
abbrev S768x512 : Shape := ⟨2, ![768, 512]⟩
abbrev S512x768 : Shape := ⟨2, ![512, 768]⟩
abbrev S512x512 : Shape := ⟨2, ![512, 512]⟩
abbrev S1024x768 : Shape := ⟨2, ![1024, 768]⟩
abbrev S1024x512 : Shape := ⟨2, ![1024, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S2x128x384 : Shape := ⟨3, ![2, 128, 384]⟩
abbrev S1x2x128x384 : Shape := ⟨4, ![1, 2, 128, 384]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x8x64, .f32⟩
  | .hbm, ⟨3, _⟩ => ⟨S2x512x8x64, .f32⟩
  | .hbm, ⟨4, _⟩ => ⟨S2048x768, .f32⟩
  | .hbm, ⟨5, _⟩ => ⟨S2x512x768, .f32⟩
  | .local _ .vmem, ⟨0, _⟩ => ⟨S2x512x768, .f32⟩
  | .local _ .vmem, ⟨1, _⟩ => ⟨S768x2048, .f32⟩
  | .local _ .vmem, ⟨2, _⟩ => ⟨S2x512x8x64, .f32⟩
  | .local _ .vmem, ⟨3, _⟩ => ⟨S2x512x8x64, .f32⟩
  | .local _ .vmem, ⟨4, _⟩ => ⟨S2048x768, .f32⟩
  | .local _ .vmem, ⟨5, _⟩ => ⟨S2x512x768, .f32⟩
  | .local _ .vmem, ⟨6, _⟩ => ⟨S2x512x768, .f32⟩
  | .local _ .vmem, ⟨7, _⟩ => ⟨S6x2x128x384, .bf16⟩
  | .local _ .vmem, ⟨8, _⟩ => ⟨S6x2x128x384, .bf16⟩
  | .local _ .vmem, ⟨9, _⟩ => ⟨S6x2x128x384, .bf16⟩
  | .local _ .vmem, ⟨10, _⟩ => ⟨S6x2x128x384, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v30 : BitVec 32 := Scalar.muli v2 c512_i32
  let v31 : Index := Scalar.indexCast v30
  ![0, v31.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v30 : BitVec 32 := Scalar.muli v2 c512_i32
  let v34 : Index := Scalar.indexCast v30
  let c0_19 : Index := 0#32
  ![v34.toNat, 0]
def k0_off3 (d0 : Dev nD) : Fin 3 → Nat :=
  let c0_206 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_199 : BitVec 32 := 4#32
  let c0_i32_200 : BitVec 32 := 0#32
  let v268 : BitVec 1 := Scalar.cmpi .eq c4_i32_199 c0_i32_200
  let c1_i32_201 : BitVec 32 := 1#32
  let v269 : BitVec 32 := Scalar.select v268 c1_i32_201 c4_i32_199
  let v270 : BitVec 32 := Scalar.remsi v2 v269
  let c0_i32_203 : BitVec 32 := 0#32
  let v272 : BitVec 1 := Scalar.cmpi .slt v270 c0_i32_203
  let c0_i32_204 : BitVec 32 := 0#32
  let v273 : BitVec 1 := Scalar.cmpi .slt v269 c0_i32_204
  let v274 : BitVec 1 := Scalar.xori v272 v273
  let c0_i32_202 : BitVec 32 := 0#32
  let v271 : BitVec 1 := Scalar.cmpi .ne v270 c0_i32_202
  let v275 : BitVec 1 := Scalar.andi v274 v271
  let v276 : BitVec 32 := Scalar.addi v270 v269
  let v277 : BitVec 32 := Scalar.select v275 v276 v270
  let c128_i32_205 : BitVec 32 := 128#32
  let v278 : BitVec 32 := Scalar.muli v277 c128_i32_205
  let v279 : Index := Scalar.indexCast v278
  let c0_207 : Index := 0#32
  ![0, v279.toNat, 0]
def k0_off4 (d0 : Dev nD) : Fin 3 → Nat :=
  let c0_219 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_212 : BitVec 32 := 4#32
  let c0_i32_213 : BitVec 32 := 0#32
  let v285 : BitVec 1 := Scalar.cmpi .eq c4_i32_212 c0_i32_213
  let c1_i32_214 : BitVec 32 := 1#32
  let v286 : BitVec 32 := Scalar.select v285 c1_i32_214 c4_i32_212
  let v287 : BitVec 32 := Scalar.remsi v2 v286
  let c0_i32_216 : BitVec 32 := 0#32
  let v289 : BitVec 1 := Scalar.cmpi .slt v287 c0_i32_216
  let c0_i32_217 : BitVec 32 := 0#32
  let v290 : BitVec 1 := Scalar.cmpi .slt v286 c0_i32_217
  let v291 : BitVec 1 := Scalar.xori v289 v290
  let c0_i32_215 : BitVec 32 := 0#32
  let v288 : BitVec 1 := Scalar.cmpi .ne v287 c0_i32_215
  let v292 : BitVec 1 := Scalar.andi v291 v288
  let v293 : BitVec 32 := Scalar.addi v287 v286
  let v294 : BitVec 32 := Scalar.select v292 v293 v287
  let c128_i32_218 : BitVec 32 := 128#32
  let v295 : BitVec 32 := Scalar.muli v294 c128_i32_218
  let v296 : Index := Scalar.indexCast v295
  let c384 : Index := 384#32
  ![0, v296.toNat, 384]
def k0_dev3 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_228 : BitVec 32 := 1#32
  let v302 : BitVec 32 := Scalar.muli v24 c1_i32_228
  let v303 : BitVec 32 := Scalar.addi c0_i32_229 v302
  v303.toNat
def k0_dev4 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_240 : BitVec 32 := 1#32
  let v312 : BitVec 32 := Scalar.muli v13 c1_i32_240
  let v313 : BitVec 32 := Scalar.addi c0_i32_241 v312
  v313.toNat
def k0_off5 (d0 : Dev nD) (c0_i32_298 : BitVec 32) : Fin 3 → Nat :=
  let c0_307 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v353 : BitVec 32 := Scalar.subi v2 c0_i32_298
  let c1_i32_299 : BitVec 32 := 1#32
  let v354 : BitVec 32 := Scalar.subi v353 c1_i32_299
  let c4_i32_300 : BitVec 32 := 4#32
  let c0_i32_301 : BitVec 32 := 0#32
  let v355 : BitVec 1 := Scalar.cmpi .eq c4_i32_300 c0_i32_301
  let c1_i32_302 : BitVec 32 := 1#32
  let v356 : BitVec 32 := Scalar.select v355 c1_i32_302 c4_i32_300
  let v357 : BitVec 32 := Scalar.remsi v354 v356
  let c0_i32_304 : BitVec 32 := 0#32
  let v359 : BitVec 1 := Scalar.cmpi .slt v357 c0_i32_304
  let c0_i32_305 : BitVec 32 := 0#32
  let v360 : BitVec 1 := Scalar.cmpi .slt v356 c0_i32_305
  let v361 : BitVec 1 := Scalar.xori v359 v360
  let c0_i32_303 : BitVec 32 := 0#32
  let v358 : BitVec 1 := Scalar.cmpi .ne v357 c0_i32_303
  let v362 : BitVec 1 := Scalar.andi v361 v358
  let v363 : BitVec 32 := Scalar.addi v357 v356
  let v364 : BitVec 32 := Scalar.select v362 v363 v357
  let c128_i32_306 : BitVec 32 := 128#32
  let v365 : BitVec 32 := Scalar.muli v364 c128_i32_306
  let v366 : Index := Scalar.indexCast v365
  let c0_308 : Index := 0#32
  ![0, v366.toNat, 0]
def k0_off6 (d0 : Dev nD) (c0_i32_313 : BitVec 32) : Fin 3 → Nat :=
  let c0_322 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v372 : BitVec 32 := Scalar.addi v2 c0_i32_313
  let c1_i32_314 : BitVec 32 := 1#32
  let v373 : BitVec 32 := Scalar.addi v372 c1_i32_314
  let c4_i32_315 : BitVec 32 := 4#32
  let c0_i32_316 : BitVec 32 := 0#32
  let v374 : BitVec 1 := Scalar.cmpi .eq c4_i32_315 c0_i32_316
  let c1_i32_317 : BitVec 32 := 1#32
  let v375 : BitVec 32 := Scalar.select v374 c1_i32_317 c4_i32_315
  let v376 : BitVec 32 := Scalar.remsi v373 v375
  let c0_i32_319 : BitVec 32 := 0#32
  let v378 : BitVec 1 := Scalar.cmpi .slt v376 c0_i32_319
  let c0_i32_320 : BitVec 32 := 0#32
  let v379 : BitVec 1 := Scalar.cmpi .slt v375 c0_i32_320
  let v380 : BitVec 1 := Scalar.xori v378 v379
  let c0_i32_318 : BitVec 32 := 0#32
  let v377 : BitVec 1 := Scalar.cmpi .ne v376 c0_i32_318
  let v381 : BitVec 1 := Scalar.andi v380 v377
  let v382 : BitVec 32 := Scalar.addi v376 v375
  let v383 : BitVec 32 := Scalar.select v381 v382 v376
  let c128_i32_321 : BitVec 32 := 128#32
  let v384 : BitVec 32 := Scalar.muli v383 c128_i32_321
  let v385 : Index := Scalar.indexCast v384
  let c384_323 : Index := 384#32
  ![0, v385.toNat, 384]
def k0_dev5 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_336 : BitVec 32 := 1#32
  let v396 : BitVec 32 := Scalar.muli v24 c1_i32_336
  let v397 : BitVec 32 := Scalar.addi c0_i32_337 v396
  v397.toNat
def k0_dev6 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_348 : BitVec 32 := 1#32
  let v406 : BitVec 32 := Scalar.muli v13 c1_i32_348
  let v407 : BitVec 32 := Scalar.addi c0_i32_349 v406
  v407.toNat
def k0_dev7 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_444 : BitVec 32 := 1#32
  let v490 : BitVec 32 := Scalar.muli v24 c1_i32_444
  let v491 : BitVec 32 := Scalar.addi c0_i32_445 v490
  v491.toNat
def k0_dev8 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_456 : BitVec 32 := 1#32
  let v500 : BitVec 32 := Scalar.muli v13 c1_i32_456
  let v501 : BitVec 32 := Scalar.addi c0_i32_457 v500
  v501.toNat
def k0_off7 (d0 : Dev nD) : Fin 3 → Nat :=
  let c0_548 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_540 : BitVec 32 := 1#32
  let v576 : BitVec 32 := Scalar.addi v2 c1_i32_540
  let c4_i32_541 : BitVec 32 := 4#32
  let c0_i32_542 : BitVec 32 := 0#32
  let v577 : BitVec 1 := Scalar.cmpi .eq c4_i32_541 c0_i32_542
  let c1_i32_543 : BitVec 32 := 1#32
  let v578 : BitVec 32 := Scalar.select v577 c1_i32_543 c4_i32_541
  let v579 : BitVec 32 := Scalar.remsi v576 v578
  let c0_i32_545 : BitVec 32 := 0#32
  let v581 : BitVec 1 := Scalar.cmpi .slt v579 c0_i32_545
  let c0_i32_546 : BitVec 32 := 0#32
  let v582 : BitVec 1 := Scalar.cmpi .slt v578 c0_i32_546
  let v583 : BitVec 1 := Scalar.xori v581 v582
  let c0_i32_544 : BitVec 32 := 0#32
  let v580 : BitVec 1 := Scalar.cmpi .ne v579 c0_i32_544
  let v584 : BitVec 1 := Scalar.andi v583 v580
  let v585 : BitVec 32 := Scalar.addi v579 v578
  let v586 : BitVec 32 := Scalar.select v584 v585 v579
  let c128_i32_547 : BitVec 32 := 128#32
  let v587 : BitVec 32 := Scalar.muli v586 c128_i32_547
  let v588 : Index := Scalar.indexCast v587
  let c0_549 : Index := 0#32
  ![0, v588.toNat, 0]
def k0_off8 (d0 : Dev nD) : Fin 3 → Nat :=
  let c0_558 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_550 : BitVec 32 := 1#32
  let v590 : BitVec 32 := Scalar.subi v2 c1_i32_550
  let c4_i32_551 : BitVec 32 := 4#32
  let c0_i32_552 : BitVec 32 := 0#32
  let v591 : BitVec 1 := Scalar.cmpi .eq c4_i32_551 c0_i32_552
  let c1_i32_553 : BitVec 32 := 1#32
  let v592 : BitVec 32 := Scalar.select v591 c1_i32_553 c4_i32_551
  let v593 : BitVec 32 := Scalar.remsi v590 v592
  let c0_i32_555 : BitVec 32 := 0#32
  let v595 : BitVec 1 := Scalar.cmpi .slt v593 c0_i32_555
  let c0_i32_556 : BitVec 32 := 0#32
  let v596 : BitVec 1 := Scalar.cmpi .slt v592 c0_i32_556
  let v597 : BitVec 1 := Scalar.xori v595 v596
  let c0_i32_554 : BitVec 32 := 0#32
  let v594 : BitVec 1 := Scalar.cmpi .ne v593 c0_i32_554
  let v598 : BitVec 1 := Scalar.andi v597 v594
  let v599 : BitVec 32 := Scalar.addi v593 v592
  let v600 : BitVec 32 := Scalar.select v598 v599 v593
  let c128_i32_557 : BitVec 32 := 128#32
  let v601 : BitVec 32 := Scalar.muli v600 c128_i32_557
  let v602 : Index := Scalar.indexCast v601
  let c384_559 : Index := 384#32
  ![0, v602.toNat, 384]
def k0_dev9 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_571 : BitVec 32 := 1#32
  let v612 : BitVec 32 := Scalar.muli v24 c1_i32_571
  let v613 : BitVec 32 := Scalar.addi c0_i32_572 v612
  v613.toNat
def k0_dev10 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_583 : BitVec 32 := 1#32
  let v622 : BitVec 32 := Scalar.muli v13 c1_i32_583
  let v623 : BitVec 32 := Scalar.addi c0_i32_584 v622
  v623.toNat
def k0_off9 (d0 : Dev nD) (c0_i32_637 : BitVec 32) : Fin 3 → Nat :=
  let c0_649 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v660 : BitVec 32 := Scalar.subi v2 c0_i32_637
  let c4_i32_642 : BitVec 32 := 4#32
  let c0_i32_643 : BitVec 32 := 0#32
  let v664 : BitVec 1 := Scalar.cmpi .eq c4_i32_642 c0_i32_643
  let c1_i32_644 : BitVec 32 := 1#32
  let v665 : BitVec 32 := Scalar.select v664 c1_i32_644 c4_i32_642
  let v666 : BitVec 32 := Scalar.remsi v660 v665
  let c0_i32_646 : BitVec 32 := 0#32
  let v668 : BitVec 1 := Scalar.cmpi .slt v666 c0_i32_646
  let c0_i32_647 : BitVec 32 := 0#32
  let v669 : BitVec 1 := Scalar.cmpi .slt v665 c0_i32_647
  let v670 : BitVec 1 := Scalar.xori v668 v669
  let c0_i32_645 : BitVec 32 := 0#32
  let v667 : BitVec 1 := Scalar.cmpi .ne v666 c0_i32_645
  let v671 : BitVec 1 := Scalar.andi v670 v667
  let v672 : BitVec 32 := Scalar.addi v666 v665
  let v673 : BitVec 32 := Scalar.select v671 v672 v666
  let c128_i32_648 : BitVec 32 := 128#32
  let v674 : BitVec 32 := Scalar.muli v673 c128_i32_648
  let v675 : Index := Scalar.indexCast v674
  let c0_650 : Index := 0#32
  ![0, v675.toNat, 0]
def k0_off10 (d0 : Dev nD) (c0_i32_651 : BitVec 32) : Fin 3 → Nat :=
  let c0_663 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v677 : BitVec 32 := Scalar.addi v2 c0_i32_651
  let c4_i32_656 : BitVec 32 := 4#32
  let c0_i32_657 : BitVec 32 := 0#32
  let v681 : BitVec 1 := Scalar.cmpi .eq c4_i32_656 c0_i32_657
  let c1_i32_658 : BitVec 32 := 1#32
  let v682 : BitVec 32 := Scalar.select v681 c1_i32_658 c4_i32_656
  let v683 : BitVec 32 := Scalar.remsi v677 v682
  let c0_i32_660 : BitVec 32 := 0#32
  let v685 : BitVec 1 := Scalar.cmpi .slt v683 c0_i32_660
  let c0_i32_661 : BitVec 32 := 0#32
  let v686 : BitVec 1 := Scalar.cmpi .slt v682 c0_i32_661
  let v687 : BitVec 1 := Scalar.xori v685 v686
  let c0_i32_659 : BitVec 32 := 0#32
  let v684 : BitVec 1 := Scalar.cmpi .ne v683 c0_i32_659
  let v688 : BitVec 1 := Scalar.andi v687 v684
  let v689 : BitVec 32 := Scalar.addi v683 v682
  let v690 : BitVec 32 := Scalar.select v688 v689 v683
  let c128_i32_662 : BitVec 32 := 128#32
  let v691 : BitVec 32 := Scalar.muli v690 c128_i32_662
  let v692 : Index := Scalar.indexCast v691
  let c384_664 : Index := 384#32
  ![0, v692.toNat, 384]
def k0_dev11 (d0 : Dev nD) : Nat :=
  let c0_i32_686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_685 : BitVec 32 := 1#32
  let v704 : BitVec 32 := Scalar.muli v24 c1_i32_685
  let v705 : BitVec 32 := Scalar.addi c0_i32_686 v704
  v705.toNat
def k0_dev12 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_697 : BitVec 32 := 1#32
  let v714 : BitVec 32 := Scalar.muli v13 c1_i32_697
  let v715 : BitVec 32 := Scalar.addi c0_i32_698 v714
  v715.toNat
def k0_dev13 (d0 : Dev nD) : Nat :=
  let c0_i32_799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_798 : BitVec 32 := 1#32
  let v796 : BitVec 32 := Scalar.muli v24 c1_i32_798
  let v797 : BitVec 32 := Scalar.addi c0_i32_799 v796
  v797.toNat
def k0_dev14 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_810 : BitVec 32 := 1#32
  let v806 : BitVec 32 := Scalar.muli v13 c1_i32_810
  let v807 : BitVec 32 := Scalar.addi c0_i32_811 v806
  v807.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x32x64, .f32⟩
  | .hbm, ⟨3, _⟩ => ⟨S2x512x32x64, .f32⟩
  | .hbm, ⟨4, _⟩ => ⟨S2048x768, .f32⟩
  | .hbm, ⟨5, _⟩ => ⟨S2x512x2048, .f32⟩
  | .hbm, ⟨6, _⟩ => ⟨S2x512x32x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S2x32x512x512, .f32⟩
  | .hbm, ⟨19, _⟩ => ⟨S_, .f32⟩
  | .hbm, ⟨20, _⟩ => ⟨S2x32x512x512, .f32⟩
  | .hbm, ⟨21, _⟩ => ⟨S2x32x512x512, .f32⟩
  | .hbm, ⟨22, _⟩ => ⟨S1x1x512x512, .i1⟩
  | .hbm, ⟨23, _⟩ => ⟨S_, .f32⟩
  | .hbm, ⟨24, _⟩ => ⟨S_, .f32⟩
  | .hbm, ⟨25, _⟩ => ⟨S2x32x512x512, .i1⟩
  | .hbm, ⟨26, _⟩ => ⟨S2x32x512x512, .f32⟩
  | .hbm, ⟨27, _⟩ => ⟨S2x32x512x512, .f32⟩
  | .hbm, ⟨28, _⟩ => ⟨S_, .f32⟩
  | .hbm, ⟨29, _⟩ => ⟨S2x32x512, .f32⟩
  | .hbm, ⟨30, _⟩ => ⟨S2x32x512x1, .f32⟩
  | .hbm, ⟨31, _⟩ => ⟨S2x32x512x512, .f32⟩
  | .hbm, ⟨32, _⟩ => ⟨S2x32x512x512, .f32⟩
  | .hbm, ⟨33, _⟩ => ⟨S2x32x512x512, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S2x32x512, .f32⟩
  | .hbm, ⟨39, _⟩ => ⟨S2x32x512x1, .f32⟩
  | .hbm, ⟨40, _⟩ => ⟨S_, .f32⟩
  | .hbm, ⟨41, _⟩ => ⟨S_, .f32⟩
  | .hbm, ⟨42, _⟩ => ⟨S2x32x512x1, .i1⟩
  | .hbm, ⟨43, _⟩ => ⟨S2x32x512x1, .f32⟩
  | .hbm, ⟨44, _⟩ => ⟨S2x32x512x1, .f32⟩
  | .hbm, ⟨45, _⟩ => ⟨S2x32x512x512, .f32⟩
  | .hbm, ⟨46, _⟩ => ⟨S2x32x512x512, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S2x32x512x512, .i1⟩
  | .hbm, ⟨51, _⟩ => ⟨S2x32x512x512, .f32⟩
  | .hbm, ⟨52, _⟩ => ⟨S2x32x512x512, .f32⟩
  | .hbm, ⟨53, _⟩ => ⟨S2x32x64x512, .f32⟩
  | .hbm, ⟨54, _⟩ => ⟨S2x512x32x64, .f32⟩
  | .hbm, ⟨55, _⟩ => ⟨S2x512x2048, .f32⟩
  | .hbm, ⟨56, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Setup.lean ====
/-
The two rings of the kernel: the directions, the slots of the four exchange buffers, the semaphores, and what every slot and
every chunk of the result holds, written down once for a symbolic device. The float instance is arbitrary.

Direction `false` goes to the right (to the next device) and moves the left half of the columns; direction `true` goes to
the left and moves the right half. Each direction makes six transfers: three that accumulate, three that only forward.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
/-- The device `k` places on from `c`: to the right for `true`, to the left for `false`. -/
def hop (d : Bool) (c : Dev nD) (k : ℕ) : Dev nD := ⟨(c.val + (if d then k else 3 * k)) % 4, Nat.mod_lt _ (by decide)⟩
/-- The device whose transfers in direction `d` arrive on `c`. -/
abbrev src (d : Bool) (c : Dev nD) : Dev nD := hop d c 1
/-- The device that `c`'s transfers in direction `d` go to. -/
abbrev peer (d : Bool) (c : Dev nD) : Dev nD := hop (!d) c 1

theorem src_peer (d : Bool) (c : Dev nD) : src d (peer d c) = c := by revert d c; decide
theorem peer_src (d : Bool) (c : Dev nD) : peer d (src d c) = c := by revert d c; decide

def ring (d : Bool) : Dev nD ≃ Dev nD := ⟨src d, peer d, peer_src d, src_peer d⟩

/-- The printed addresses: the two signals go to the left and to the right, the transfers to their directions' peers. -/
theorem dev1_eq (c : Dev nD) : (⟨k0_dev1 c, k0_dev1_lt c⟩ : Dev nD) = src false c := by revert c; decide +kernel
theorem dev2_eq (c : Dev nD) : (⟨k0_dev2 c, k0_dev2_lt c⟩ : Dev nD) = src true c := by revert c; decide +kernel
theorem dev3_eq (c : Dev nD) : (⟨k0_dev3 c, k0_dev3_lt c⟩ : Dev nD) = peer false c := by revert c; decide +kernel
theorem dev4_eq (c : Dev nD) : (⟨k0_dev4 c, k0_dev4_lt c⟩ : Dev nD) = peer true c := by revert c; decide +kernel
theorem dev5_eq (c : Dev nD) : (⟨k0_dev5 c, k0_dev5_lt c⟩ : Dev nD) = peer false c := by revert c; decide +kernel
theorem dev6_eq (c : Dev nD) : (⟨k0_dev6 c, k0_dev6_lt c⟩ : Dev nD) = peer true c := by revert c; decide +kernel
theorem dev7_eq (c : Dev nD) : (⟨k0_dev7 c, k0_dev7_lt c⟩ : Dev nD) = peer false c := by revert c; decide +kernel
theorem dev8_eq (c : Dev nD) : (⟨k0_dev8 c, k0_dev8_lt c⟩ : Dev nD) = peer true c := by revert c; decide +kernel
theorem dev9_eq (c : Dev nD) : (⟨k0_dev9 c, k0_dev9_lt c⟩ : Dev nD) = peer false c := by revert c; decide +kernel
theorem dev10_eq (c : Dev nD) : (⟨k0_dev10 c, k0_dev10_lt c⟩ : Dev nD) = peer true c := by revert c; decide +kernel
theorem dev11_eq (c : Dev nD) : (⟨k0_dev11 c, k0_dev11_lt c⟩ : Dev nD) = peer false c := by revert c; decide +kernel
theorem dev12_eq (c : Dev nD) : (⟨k0_dev12 c, k0_dev12_lt c⟩ : Dev nD) = peer true c := by revert c; decide +kernel
theorem dev13_eq (c : Dev nD) : (⟨k0_dev13 c, k0_dev13_lt c⟩ : Dev nD) = peer false c := by revert c; decide +kernel
theorem dev14_eq (c : Dev nD) : (⟨k0_dev14 c, k0_dev14_lt c⟩ : Dev nD) = peer true c := by revert c; decide +kernel

/-! ## The semaphores -/

/-- The runtime's barrier semaphore of the kernel. -/
abbrev barS : Sem sig := (SemArray.scalar (sig.barrier 0 rfl) : Sems sig S_).sem
set_option backward.proofsInPublic true in
/-- The DMA semaphore of direction `x.1`, sending (`x.2.1 = false`) or receiving, at step `x.2.2`. -/
def dmaS (x : Bool × Bool × Fin 6) : DmaSem sig :=
  ⟨6 + (if x.1 then 12 else 0) + (if x.2.1 then 6 else 0) + x.2.2.val, by revert x; decide⟩
/-- The triple a DMA semaphore belongs to. -/
def dmaIx (q : DmaSem sig) : Bool × Bool × Fin 6 :=
  (decide (18 ≤ q.val), decide (6 ≤ (q.val + 6) % 12), ⟨q.val % 6, Nat.mod_lt _ (by decide)⟩)
theorem dmaIx_dmaS (x : Bool × Bool × Fin 6) : dmaIx (dmaS x) = x := by revert x; decide
theorem six_le_dmaS (x : Bool × Bool × Fin 6) : 6 ≤ (dmaS x).val := by revert x; decide
theorem dmaS_injective : Function.Injective dmaS := fun x y h => by rw [← dmaIx_dmaS x, h, dmaIx_dmaS]

abbrev barCell (c : Dev nD) : GSem nD τ sig := ((c : Thread nD τ), .reg barS)
abbrev xCell (c : Dev nD) (x : Bool × Bool × Fin 6) : GSem nD τ sig := ((c : Thread nD τ), .dma (dmaS x))
abbrev sCell (d : Bool) (s : Fin 6) (c : Dev nD) : GSem nD τ sig := xCell c (d, false, s)
abbrev rCell (d : Bool) (s : Fin 6) (c : Dev nD) : GSem nD τ sig := xCell c (d, true, s)

/-! ## The slots -/

theorem slot_inb (s : Fin 6) : ∀ a, (![s.val, 0, 0, 0] : Fin 4 → ℕ) a + S1x2x128x384.size a ≤ S6x2x128x384.size a := by revert s; decide
/-- The rectangle of slot `s` of an exchange buffer. -/
abbrev slotR (s : Fin 6) : Rect S6x2x128x384 := Rect.unit (s := S6x2x128x384) ![s.val, 0, 0, 0] S1x2x128x384.size (slot_inb s)

/-- An exchange buffer's memref, its slots' type, a slot's contents. -/
abbrev CM : Type := Memref sig .tc .vmem S6x2x128x384 .bf16
abbrev SM : Type := Memref sig .tc .vmem S2x128x384 .bf16
/-- The memref of a slot: the slice with the leading axis dropped. -/
abbrev slotM (M : CM) (s : Fin 6) : SM := (M.slice (slotR s) (fun _ => rfl)).squeeze S2x128x384 squeezes_S1x2x128x384_S2x128x384

/-- The buffers the transfers of a direction leave from, and those they land in. -/
abbrev stM : Bool → CM := fun | false => Memref.whole cc0_scratch1 | true => Memref.whole cc0_scratch3
abbrev rvM : Bool → CM := fun | false => Memref.whole cc0_scratch2 | true => Memref.whole cc0_scratch4

/-- Device `c`'s slot `s` of the buffer `M`, holding `v`. -/
def slotOwn (M : CM) (s : Fin 6) (c : Dev nD) (v : Vec F S1x2x128x384 .bf16) : sProp 𝕄 :=
  iprop(∃ f : Buf (Elt F) ((M.access (slotR s)).loc (c : Thread nD τ)), ⌜(M.access (slotR s)).read (Elt F) f = v⌝
    ∗ ((M.access (slotR s)).loc (c : Thread nD τ) ↦[(M.access (slotR s)).set]{fullShare} f))
/-- The slot holding anything. -/
def slotAny (M : CM) (s : Fin 6) (c : Dev nD) : sProp 𝕄 := iprop(∃ v, slotOwn (F := F) M s c v)

omit [FloatOps F] in
instance slotOwn_storable (M : CM) (s : Fin 6) (c : Dev nD) (v) : BI.Storable (upEmb : UEmb _ 𝕄) (slotOwn (F := F) M s c v) := by
  unfold slotOwn; infer_instance
omit [FloatOps F] in
instance slotAny_storable (M : CM) (s : Fin 6) (c : Dev nD) : BI.Storable (upEmb : UEmb _ 𝕄) (slotAny (F := F) M s c) := by
  unfold slotAny; infer_instance

/-- A transfer's credit: a slot's bytes. -/
abbrev N : ℕ := (slotM (stM false) 0).view.dmaCredit
theorem N_pos : 0 < N := View.dmaCredit_pos _ (by decide)

/-! ## What the arrays hold -/

variable (m : (ℓ : Loc nD τ sig) → Buf (Elt F) ℓ) (ρ : Dev nD → PrngReg)

def s₀ : MemSt nD τ sig (Elt F) := ⟨m, fun _ => 0, ρ⟩

/-- The five operands as they are staged. -/
def xs (c : Dev nD) : (cc0_stg0_0 : Ref sig .tc).ty.Contents (Elt F) :=
  (win0_0.blk (0 : Fin 1)).view.read (Elt F) ((s₀ m ρ).mem ((c : Thread nD τ).loc main_arg0))
def wqs (c : Dev nD) : (cc0_stg1_0 : Ref sig .tc).ty.Contents (Elt F) :=
  (win0_1.blk (0 : Fin 1)).view.read (Elt F) ((s₀ m ρ).mem ((c : Thread nD τ).loc main_arg1))
def ks (c : Dev nD) : (cc0_stg2_0 : Ref sig .tc).ty.Contents (Elt F) :=
  (win0_2.blk (0 : Fin 1)).view.read (Elt F) ((s₀ m ρ).mem ((c : Thread nD τ).loc main_arg2))
def vs (c : Dev nD) : (cc0_stg3_0 : Ref sig .tc).ty.Contents (Elt F) :=
  (win0_3.blk (0 : Fin 1)).view.read (Elt F) ((s₀ m ρ).mem ((c : Thread nD τ).loc main_arg3))
def wos (c : Dev nD) : (cc0_stg4_0 : Ref sig .tc).ty.Contents (Elt F) :=
  (win0_4.blk (0 : Fin 1)).view.read (Elt F) ((s₀ m ρ).mem ((c : Thread nD τ).loc main_arg4))

/-- The operands as the body loads them: its columns of `Wq`, its rows of `Wo`, all of `x`, one head of the keys or values. -/
def ldWq (c : Dev nD) : Vec F S768x512 .f32 :=
  (Memref.whole cc0_stg1_0 : Memref sig .tc .vmem S768x2048 .f32).view.readAt (Elt F)
    (Rect.unit (s := S768x2048) (k0_off1 c) S768x512.size (k0_off1_inb c)).toLoadRect (wqs m ρ c)
def ldWo (c : Dev nD) : Vec F S512x768 .f32 :=
  (Memref.whole cc0_stg4_0 : Memref sig .tc .vmem S2048x768 .f32).view.readAt (Elt F)
    (Rect.unit (s := S2048x768) (k0_off2 c) S512x768.size (k0_off2_inb c)).toLoadRect (wos m ρ c)
def ldX (c : Dev nD) : Vec F S2x512x768 .f32 :=
  (Memref.whole cc0_stg0_0 : Memref sig .tc .vmem S2x512x768 .f32).view.readAt (Elt F)
    (Rect.unit (s := S2x512x768) ![0, 0, 0] S2x512x768.size inb_S2x512x768_S2x512x768_0_0_0).toLoadRect (xs m ρ c)
theorem head_inb (b : Fin 2) (h : Fin 8) :
    ∀ a, (![b.val, 0, h.val, 0] : Fin 4 → ℕ) a + S1x512x1x64.size a ≤ S2x512x8x64.size a := by revert b h; decide
abbrev headR (b : Fin 2) (h : Fin 8) : Rect S2x512x8x64 := Rect.unit (s := S2x512x8x64) ![b.val, 0, h.val, 0] S1x512x1x64.size (head_inb b h)
def ldK (c : Dev nD) (b : Fin 2) (h : Fin 8) : Vec F S1x512x1x64 .f32 :=
  (Memref.whole cc0_stg2_0 : Memref sig .tc .vmem S2x512x8x64 .f32).view.readAt (Elt F) (headR b h).toLoadRect (ks m ρ c)
def ldV (c : Dev nD) (b : Fin 2) (h : Fin 8) : Vec F S1x512x1x64 .f32 :=
  (Memref.whole cc0_stg3_0 : Memref sig .tc .vmem S2x512x8x64 .f32).view.readAt (Elt F) (headR b h).toLoadRect (vs m ρ c)

/-- What a device computes by itself from what it loads: eight heads for each batch, times its rows of `Wo`. -/
def proj (wq : Vec F S768x512 .f32) (wo : Vec F S512x768 .f32) (x : Vec F S2x512x768 .f32)
    (k v : Fin 2 → Fin 8 → Vec F S1x512x1x64 .f32) : FVec F S1024x768 .f32 :=
  k0_pay25 (k0_pay1 wo) k0_pay2 (k0_pay3 wq x)
    (k0_pay14 k0_pay2 (k0_pay3 wq x) (k0_pay4 wq x (k 0 0) (v 0 0)) (k0_pay6 k0_pay2 (k0_pay5 wq x) (k 0 1) (v 0 1))
      (k0_pay7 k0_pay2 (k0_pay3 wq x) (k 0 2) (v 0 2))
      (k0_pay10 (k0_pay8 (v 0 3)) (k0_pay9 k0_pay2 (k0_pay3 wq x) (k 0 3)))
      (k0_pay11 k0_pay2 (k0_pay3 wq x) (k 0 4) (v 0 4)) (k0_pay12 k0_pay2 (k0_pay3 wq x) (k 0 5) (v 0 5))
      (k0_pay13 (k0_pay3 wq x)) (k 0 6) (v 0 6) (k 0 7) (v 0 7))
    (k0_pay17 k0_pay2 (k0_pay15 (v 1 0)) (k0_pay16 (k0_pay3 wq x) (k 1 0)))
    (k0_pay18 k0_pay2 (k0_pay3 wq x) (k 1 1) (v 1 1))
    (k0_pay19 k0_pay2 (k0_pay3 wq x) (k 1 2) (v 1 2))
    (k0_pay21 k0_pay2 (k0_pay20 (k0_pay3 wq x)) (k 1 3) (v 1 3))
    (k0_pay22 k0_pay2 (k0_pay3 wq x) (k 1 4) (v 1 4))
    (k0_pay23 (v 1 5)) (k0_pay24 (k0_pay3 wq x) (k 1 5)) (k 1 6) (v 1 6) (k 1 7) (v 1 7)

/-- Device `c`'s partial product, before and after its rows are split by batch. -/
def projAt (c : Dev nD) : FVec F S1024x768 .f32 := proj (ldWq m ρ c) (ldWo m ρ c) (ldX m ρ c) (ldK m ρ c) (ldV m ρ c)
def part (c : Dev nD) : Vec F S2x512x768 .f32 := k0_pay26 (projAt m ρ c)

/-- Where chunk `j` of a half starts: 128 rows, 384 columns. -/
abbrev chunkOff (j : Dev nD) (d : Bool) : Fin 3 → ℕ := ![0, 128 * j.val, if d then 384 else 0]
theorem chunk_inb (j : Dev nD) (d : Bool) : ∀ a, chunkOff j d a + S2x128x384.size a ≤ S2x512x768.size a := by revert j d; decide
abbrev chunkR (j : Dev nD) (d : Bool) : Rect S2x512x768 := Rect.unit (s := S2x512x768) (chunkOff j d) S2x128x384.size (chunk_inb j d)

/-- A chunk of `c`'s partial product. -/
def chunkAt (c j : Dev nD) (d : Bool) : Vec F S2x128x384 .f32 :=
  (Memref.whole cc0_scratch0 : Memref sig .tc .vmem S2x512x768 .f32).view.readAt (Elt F) (chunkR j d).toLoadRect (part m ρ c)

/-- The printed chunk offsets. -/
theorem off3_eq (c : Dev nD) : k0_off3 c = chunkOff (hop false c 0) false := by revert c; decide +kernel
theorem off4_eq (c : Dev nD) : k0_off4 c = chunkOff (hop true c 0) true := by revert c; decide +kernel
theorem off5_eq (c : Dev nD) (k : Fin 3) : k0_off5 c (BitVec.ofNat 32 k.val) = chunkOff (hop false c (k.val + 1)) false := by revert c k; decide +kernel
theorem off6_eq (c : Dev nD) (k : Fin 3) : k0_off6 c (BitVec.ofNat 32 k.val) = chunkOff (hop true c (k.val + 1)) true := by revert c k; decide +kernel
theorem off7_eq (c : Dev nD) : k0_off7 c = chunkOff (hop false c 3) false := by revert c; decide +kernel
theorem off8_eq (c : Dev nD) : k0_off8 c = chunkOff (hop true c 3) true := by revert c; decide +kernel
theorem off9_eq (c : Dev nD) (k : Fin 3) : k0_off9 c (BitVec.ofNat 32 k.val) = chunkOff (hop false c k.val) false := by revert c k; decide +kernel
theorem off10_eq (c : Dev nD) (k : Fin 3) : k0_off10 c (BitVec.ofNat 32 k.val) = chunkOff (hop true c k.val) true := by revert c k; decide +kernel

/-- To the wire and back, what arrives plus a chunk, and what arrives sent on. -/
abbrev toWire (v : Vec F S2x128x384 .f32) : Vec F S1x2x128x384 .bf16 := k0_pay27 v
abbrev fromWire (w : Vec F S1x2x128x384 .bf16) : Vec F S2x128x384 .f32 := k0_pay30 w
abbrev accum (w : Vec F S1x2x128x384 .bf16) (v : Vec F S2x128x384 .f32) : Vec F S2x128x384 .f32 := k0_pay29 w v
abbrev again (w : Vec F S1x2x128x384 .bf16) : Vec F S1x2x128x384 .bf16 := k0_pay44 w

/-- What device `c` sends in direction `d` at step `s`. -/
def sent (d : Bool) : ℕ → Dev nD → Vec F S1x2x128x384 .bf16
  | 0, c => toWire (chunkAt m ρ c (hop d c 0) d)
  | s + 1, c => if s < 3 then toWire (accum (sent d s (src d c)) (chunkAt m ρ c (hop d c (s + 1)) d)) else again (sent d s (src d c))

/-- The chunk of the result that device `c` stores `t` steps after its own: three forwarded, the last one accumulated by itself. -/
def resAt (d : Bool) (c : Dev nD) (t : ℕ) : Vec F S2x128x384 .f32 :=
  if t < 3 then fromWire (sent m ρ d (3 + t) (src d c)) else accum (sent m ρ d 2 (src d c)) (chunkAt m ρ c (hop d c 3) d)

/-- How many places chunk `j` lies from device `c`. -/
def dist (d : Bool) (c j : Dev nD) : ℕ := (if d then j.val + 4 - c.val else c.val + 4 - j.val) % 4
theorem dist_hop (d : Bool) (c : Dev nD) (t : Fin 4) : dist d c (hop d c t.val) = t.val := by revert d c t; decide
theorem hop_dist (d : Bool) (c j : Dev nD) : hop d c (dist d c j) = j := by revert d c j; decide

/-- The chunk and the half that an index of the result lies in, and its place there. -/
def rowOf (i : S2x512x768.Idx) : Dev nD := ⟨(i 1).val / 128, (Nat.div_lt_iff_lt_mul (by decide)).2 (i 1).isLt⟩
def halfOf (i : S2x512x768.Idx) : Bool := decide (384 ≤ (i 2).val)
def within (i : S2x512x768.Idx) : S2x128x384.Idx := fun
  | ⟨0, _⟩ => ⟨(i 0).val, (i 0).isLt⟩
  | ⟨1, _⟩ => ⟨(i 1).val % 128, Nat.mod_lt _ (by decide)⟩
  | ⟨2, _⟩ => ⟨(i 2).val % 384, Nat.mod_lt _ (by decide)⟩
  | ⟨_ + 3, h⟩ => absurd h (Nat.not_lt.2 (Nat.le_add_left _ _))

/-- The result on device `c`. -/
def out (c : Dev nD) : Vec F S2x512x768 .f32 := fun i =>
  resAt m ρ (halfOf i) c (dist (halfOf i) c (rowOf i)) (within i)

end Cert.KernelIdeal.Ring
-- ==== Proof.KernelIdeal.Sched.lean ====
/-
The schedule of the kernel's semaphores: what each barrier unit and each transfer hands over, what every device owes at the
start and after each of its twelve transfers, and that no wait can be part of a circle.
-/
module

public import proofs.«01_k».proof.Proof.KernelIdeal.Setup

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Duty `d` of `c`'s barrier cell hands over the six landing slots that `c`'s transfers in direction `d` write. -/
def barPay (c : Dev nD) (d : Bool) : sProp 𝕄 := bigSep Finset.univ fun s : Fin 6 => slotAny (F := F) (rvM d) s (peer d c)
/-- A transfer's end: the sender has its slot back, the receiver has what was sent to it. -/
def xPay (c : Dev nD) (x : Bool × Bool × Fin 6) : sProp 𝕄 :=
  if x.2.1 then slotOwn (rvM x.1) x.2.2 c (sent m ρ x.1 x.2.2.val (src x.1 c)) else slotOwn (stM x.1) x.2.2 c (sent m ρ x.1 x.2.2.val c)

omit [FloatOps F] in
instance barPay_storable (c : Dev nD) (d : Bool) : BI.Storable (upEmb : UEmb _ 𝕄) (barPay (F := F) c d) := by unfold barPay; infer_instance
instance xPay_storable (c : Dev nD) (x) : BI.Storable (upEmb : UEmb _ 𝕄) (xPay m ρ c x) := by unfold xPay; split <;> infer_instance

def ringRd : Rounds.Schedule (GSem nD τ sig) Bool 𝕄 where
  duties g r := if r = 0 ∧ g.1.2 = .tc then (match g.2 with
    | .reg q => if q = barS then Finset.univ else ∅
    | .dma q => if 6 ≤ q.val then {false} else ∅) else ∅
  unitless _ := False
  amount g _ _ := match g.2 with
    | .reg _ => 1
    | .dma _ => N
  payload g _ d := match g.2 with
    | .reg _ => barPay g.1.1 d
    | .dma q => xPay m ρ g.1.1 (dmaIx q)
  amount_pos g _ _ _ := by
    obtain ⟨t, q | q⟩ := g
    · exact Nat.one_pos
    · exact N_pos

instance ringRd_payload_storable (g : GSem nD τ sig) (r : ℕ) (d : Bool) :
    BI.Storable (upEmb : UEmb _ 𝕄) ((ringRd (F := F) m ρ).payload g r d) := by
  obtain ⟨t, q | q⟩ := g
  · exact barPay_storable _ _
  · exact xPay_storable m ρ _ _

section Tables
variable (c : Dev nD) (x : Bool × Bool × Fin 6)

theorem duties_bar : (ringRd (F := F) m ρ).duties (barCell c) 0 = Finset.univ := by
  dsimp only [ringRd]; rw [if_pos ⟨rfl, rfl⟩]; exact if_pos rfl
theorem duties_x : (ringRd (F := F) m ρ).duties (xCell c x) 0 = {false} := by
  dsimp only [ringRd]; rw [if_pos ⟨rfl, rfl⟩]; exact if_pos (six_le_dmaS x)
theorem duties_later (g : GSem nD τ sig) : ∀ r, 1 ≤ r → (ringRd (F := F) m ρ).duties g r = ∅ :=
  fun r hr => by dsimp only [ringRd]; rw [if_neg fun h => by omega]
theorem mem_duties_x : false ∈ (ringRd (F := F) m ρ).duties (xCell c x) 0 := by rw [duties_x]; exact Finset.mem_singleton_self _
theorem amount_bar (d : Bool) : (ringRd (F := F) m ρ).amount (barCell c) 0 d = 1 := rfl
theorem amount_x (d : Bool) : (ringRd (F := F) m ρ).amount (xCell c x) 0 d = N := rfl
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x : (ringRd (F := F) m ρ).expect (xCell c x) 0 = N := by
  unfold Schedule.expect Schedule.amountOf; rw [duties_x m ρ c x, Finset.sum_singleton, amount_x]
theorem payload_bar (d : Bool) : (ringRd (F := F) m ρ).payload (barCell c) 0 d = barPay c d := rfl
theorem payload_x (d : Bool) : (ringRd (F := F) m ρ).payload (xCell c x) 0 d = xPay m ρ c x := by
  show xPay m ρ c (dmaIx (dmaS x)) = _; rw [dmaIx_dmaS]
theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_x : bigSep ((ringRd (F := F) m ρ).duties (xCell c x) 0 \ ∅) (fun d => (ringRd (F := F) m ρ).payload (xCell c x) 0 d) = xPay m ρ c x := by
  rw [Finset.sdiff_empty, duties_x m ρ c x, bigSep_singleton, payload_x]

end Tables

/-! ## What is owed -/

/-- The place of a transfer in a device's program: at each step the right one, then the left one. -/
def place (p : Bool × Fin 6) : ℕ := 2 * p.2.val + (if p.1 then 1 else 0)
theorem place_injective : Function.Injective place := by decide

/-- What `c` still owes when its first `j` transfers are under way: the credits of the others, to the cells they land on. -/
def due (c : Dev nD) (j : ℕ) : CellTallies nD τ sig Unit :=
  ∑ p : Bool × Fin 6 with j ≤ place p, tallyAt (rCell p.1 p.2 (peer p.1 c)) () N
/-- Before that the two barrier units: the first to the left, the second to the right. -/
def due₁ (c : Dev nD) : CellTallies nD τ sig Unit := due c 0 + tallyAt (barCell (src true c)) () 1
def due₀ (c : Dev nD) : CellTallies nD τ sig Unit := due₁ c + tallyAt (barCell (src false c)) () 1

theorem due_place (c : Dev nD) (p : Bool × Fin 6) :
    due c (place p) = due c (place p + 1) + tallyAt (rCell p.1 p.2 (peer p.1 c)) () N := by
  have h : (Finset.univ.filter fun p' : Bool × Fin 6 => place p ≤ place p')
      = insert p (Finset.univ.filter fun p' : Bool × Fin 6 => place p + 1 ≤ place p') := by
    ext p'
    simp only [Finset.mem_filter, Finset.mem_univ, true_and, Finset.mem_insert]
    constructor
    · intro h
      rcases Nat.eq_or_lt_of_le h with h | h
      · exact .inl (place_injective h.symm)
      · exact .inr h
    · rintro (rfl | h)
      · exact le_rfl
      · omega
  unfold due
  rw [h, Finset.sum_insert (by simp), add_comm]

theorem due_end (c : Dev nD) : due c 12 = 0 := by
  unfold due
  rw [Finset.filter_false_of_mem (fun p _ => by revert p; decide), Finset.sum_empty]

theorem due_pos {c : Dev nD} {j : ℕ} {g : GSem nD τ sig} {u : Unit} (h : 0 < due c j g u) :
    ∃ p : Bool × Fin 6, j ≤ place p ∧ g = rCell p.1 p.2 (peer p.1 c) := by
  unfold due at h
  rw [Finset.sum_apply, Finsupp.finsetSum_apply] at h
  obtain ⟨p, hp, hne⟩ := Finset.exists_ne_zero_of_sum_ne_zero (Nat.pos_iff_ne_zero.mp h)
  refine ⟨p, (Finset.mem_filter.mp hp).2, ?_⟩
  by_contra hn
  rw [tallyAt_apply, if_neg (fun h' => hn h'.1)] at hne
  exact hne rfl
theorem due₀_pos {c : Dev nD} {g : GSem nD τ sig} {u : Unit} (h : 0 < due₀ c g u) :
    (∃ p : Bool × Fin 6, g = rCell p.1 p.2 (peer p.1 c)) ∨ ∃ d, g = barCell (src d c) := by
  unfold due₀ due₁ at h
  rw [Pi.add_apply, Finsupp.add_apply, Pi.add_apply, Finsupp.add_apply, tallyAt_apply, tallyAt_apply] at h
  by_contra hn
  rw [not_or] at hn
  rw [if_neg (fun h' => hn.2 ⟨true, h'.1⟩), if_neg (fun h' => hn.2 ⟨false, h'.1⟩), Nat.add_zero] at h
  obtain ⟨p, -, hp⟩ := due_pos h
  exact hn.1 ⟨p, hp⟩

/-! ## The levels -/

def L (g : GSem nD τ sig) : Finset Unit := if g.1.2 = .tc then {()} else ∅
/-- Staging and sending cells lowest, the barrier next, then the receiving cells by step. -/
def lv (g : GSem nD τ sig) (_ : Unit) : ℕ := match g.2 with
  | .reg _ => 1
  | .dma q => if (dmaIx q).2.1 ∧ 6 ≤ q.val then 2 + (dmaIx q).2.2.val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_s (d : Bool) (s : Fin 6) (c : Dev nD) (u : Unit) : lv (sCell d s c) u = 0 := by
  show (if (dmaIx (dmaS _)).2.1 ∧ _ then _ else _) = _; rw [dmaIx_dmaS]; exact if_neg (fun h => by cases h.1)
theorem lv_r (d : Bool) (s : Fin 6) (c : Dev nD) (u : Unit) : lv (rCell d s c) u = 2 + s.val := by
  show (if (dmaIx (dmaS _)).2.1 ∧ _ then 2 + (dmaIx (dmaS _)).2.2.val else _) = _
  rw [dmaIx_dmaS]; exact if_pos ⟨rfl, six_le_dmaS _⟩

/-- A cell of `c` may be waited on while `c` owes only cells of a higher level. -/
theorem mayWait_cut (c : Dev nD) (sm : SemLoc sig) (n : ℕ) (O : CellTallies nD τ sig Unit)
    (hn : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem mayWait_stage (c : Dev nD) (q : DmaSem sig) (hq : q.val < 6) (O : CellTallies nD τ sig Unit) (hO : O = due₀ c ∨ O = 0) :
    (levAts L lv : sProp 𝕄) ⊢ MayWait (c : Thread nD τ) (.dma q) () O := by
  rcases hO with rfl | rfl
  · refine mayWait_cut c _ 0 _ (by show (if _ ∧ 6 ≤ q.val then _ else _) ≤ 0; rw [if_neg (fun h => by omega)]) fun g u hg => ?_
    rcases due₀_pos hg with ⟨p, rfl⟩ | ⟨d, rfl⟩
    · exact ⟨rfl, by rw [lv_r]; omega⟩
    · exact ⟨rfl, by rw [lv_bar]; omega⟩
  · rw [MayWait_zero]; iintro -; iempintro

theorem mayWait_bar (c : Dev nD) : (levAts L lv : sProp 𝕄) ⊢ MayWait (c : Thread nD τ) (.reg barS) () (due c 0) :=
  mayWait_cut c _ 1 _ le_rfl fun g u hg => by obtain ⟨p, -, rfl⟩ := due_pos hg; exact ⟨rfl, by rw [lv_r]; omega⟩

/-- At step `s` both transfers of the step are under way: what is still owed lands at a later step. -/
theorem mayWait_x (c : Dev nD) (d k : Bool) (s : Fin 6) (j : ℕ) (hj : 2 * s.val + 2 ≤ j) :
    (levAts L lv : sProp 𝕄) ⊢ MayWait (c : Thread nD τ) (.dma (dmaS (d, k, s))) () (due c j) :=
  mayWait_cut c _ (2 + s.val) _ (by cases k; · rw [lv_s]; omega
                                    · rw [lv_r])
    fun g u hg => by
      obtain ⟨p, hp, rfl⟩ := due_pos hg
      refine ⟨rfl, ?_⟩
      rw [lv_r]
      unfold place at hp
      split at hp <;> omega

end Cert.KernelIdeal.Ring
-- ==== Proof.KernelIdeal.Steps.lean ====
/-
One lemma per kind of step of the body, at a symbolic direction and step: the load and the store of a slot, a transfer, the
wait for its departure and the wait for the arrival of its counterpart, the store of a chunk of the result.
-/
module

public import proofs.«01_k».proof.Proof.KernelIdeal.Sched
public import Idealize.ShloMosaic.Lib.ViewIndex

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and what is known of them -/

/-- A device's cells: its barrier cell (`none`) and those of its transfers. -/
abbrev CI : Type := Option (Bool × Bool × Fin 6)
abbrev kcell (ck : Dev nD × CI) : GSem nD τ sig := match ck.2 with
  | none => barCell ck.1
  | some x => xCell ck.1 x

/-- Every cell's invariant, and that every cell has reached its round. -/
def records (K : Dev nD × CI → ℕ) : sProp 𝕄 :=
  iprop((bigSep Finset.univ fun ck : Dev nD × CI => cellInv ER (ringRd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (ringRd m ρ) (K ck) (kcell ck) := by
  unfold records
  exact sep_elim_left.trans (bigSep_elim (Finset.mem_univ ck))
theorem reached_at (K : Dev nD × CI → ℕ) (ck : Dev nD × CI) : records m ρ K ⊢ reached ER (kcell ck) 0 := by
  unfold records
  exact sep_elim_right.trans (bigSep_elim (Finset.mem_univ ck))

/-! ## A transfer's states -/

/-- Nothing done yet. -/
def ready (d : Bool) (s : Fin 6) (c : Dev nD) : sProp 𝕄 :=
  iprop(dutyTok ER (sCell d s c) 0 false ∗ dutyTok ER (rCell d s (peer d c)) 0 false ∗ atPos ER (sCell d s c) 0 ∅ 0
    ∗ atPos ER (rCell d s c) 0 ∅ 0 ∗ cred (tallyAt (rCell d s c) () N))
/-- Under way. -/
def flying (d : Bool) (s : Fin 6) (c : Dev nD) : sProp 𝕄 :=
  iprop(atPos ER (sCell d s c) 0 ∅ 0 ∗ atPos ER (rCell d s c) 0 ∅ 0 ∗ cred (tallyAt (rCell d s c) () N) ∗ cred (tallyAt (sCell d s c) () N))
/-- Gone; the counterpart not yet waited for. -/
def gone (d : Bool) (s : Fin 6) (c : Dev nD) : sProp 𝕄 :=
  iprop(atPos ER (sCell d s c) (0 + 1) ∅ 0 ∗ atPos ER (rCell d s c) 0 ∅ 0 ∗ cred (tallyAt (rCell d s c) () N))
/-- Both ends done. -/
def over (d : Bool) (s : Fin 6) (c : Dev nD) : sProp 𝕄 :=
  iprop(atPos ER (sCell d s c) (0 + 1) ∅ 0 ∗ atPos ER (rCell d s c) (0 + 1) ∅ 0)
/-- What `c` owes after its first `j` transfers. -/
def owing (c : Dev nD) (j : ℕ) : sProp 𝕄 := iprop(∃ W, owes (c : Thread nD τ) (due c j) W)

variable (K : Dev nD × CI → ℕ) (c : Dev nD)

section Rules
/-! ## Loads and stores of slots -/

theorem step_load (M : CM) (s : Fin 6) (v : Vec F S1x2x128x384 .bf16) {hl : M.view.LoadsAt (slotR s).toLoadRect}
    {α : Type} {Q : α → sProp 𝕄} {k : ((slotR s).toLoadRect.shape.Idx → Elt F .bf16) → Prog (TpuEff nD τ sig (Elt F) Λ₀ .tc) α} :
    slotOwn (F := F) M s c v ⊢ iprop((slotOwn (F := F) M s c v -∗ wp frame (wpE (defs₀ (F := F)) 𝒱₀ (c : Thread nD τ) none) Set.univ (k v) Q)
      -∗ wp frame (wpE (defs₀ (F := F)) 𝒱₀ (c : Thread nD τ) none) Set.univ (.op (.load M (slotR s).toLoadRect hl) k) Q) := by
  unfold slotOwn
  iintro ⟨%f, %hf, H⟩ Hk
  subst hf
  iapply (wp_load_rect 𝒱₀ (c : Thread nD τ) none Set.univ (m := M) (r := slotR s) (f := f) (Finset.Subset.refl _)) $$ H
  iintro H
  iapply Hk
  iexists f
  isplitr; · ipureintro; rfl
  iexact H

theorem step_store (M : CM) (s : Fin 6) (v w : Vec F S1x2x128x384 .bf16) {hx : (M.access (slotR s)).Stores Finset.univ}
    {hm : (Finset.univ : Finset (slotR s).shape.Idx) = Finset.univ ∨ ∀ a, (slotR s).stride a = 1}
    {α : Type} {Q : α → sProp 𝕄} {k : PUnit → Prog (TpuEff nD τ sig (Elt F) Λ₀ .tc) α} :
    slotOwn (F := F) M s c v ⊢ iprop((slotOwn (F := F) M s c w -∗ wp frame (wpE (defs₀ (F := F)) 𝒱₀ (c : Thread nD τ) none) Set.univ (k ⟨⟩) Q)
      -∗ wp frame (wpE (defs₀ (F := F)) 𝒱₀ (c : Thread nD τ) none) Set.univ (.op (.store M (slotR s) w Finset.univ hx hm) k) Q) := by
  unfold slotOwn
  iintro ⟨%f, %hf, H⟩ Hk
  iapply (wp_store 𝒱₀ (c : Thread nD τ) none Set.univ (m := M) (r := slotR s) (Mk := Finset.univ) (S := (M.access (slotR s)).set) (f := f) (Finset.Subset.refl _)) $$ H
  iintro H
  iapply Hk
  iexists _
  isplitr [H]
  · ipureintro; exact View.read_write_univ (v := M.access (slotR s)) f w
  iexact H

/-! ## Transfers -/

omit [FloatOps F] in
/-- A slot's elements are those of its memref. -/
theorem set_slotM (M : CM) (s : Fin 6) : (slotM M s).view.set = (M.access (slotR s)).set := View.set_reshape _ _

omit [FloatOps F] in
/-- A slot written through its memref with what another slot's memref reads holds what the other slot holds. -/
theorem read_landed (M M' : CM) (s s' : Fin 6) (f : M'.view.ty.Contents (Elt F)) (g : M.view.ty.Contents (Elt F)) :
    (M'.access (slotR s')).read (Elt F) ((slotM M' s').view.write (Elt F) f ((slotM M s).view.read (Elt F) g) Finset.univ)
      = (M.access (slotR s)).read (Elt F) g := by
  have hn : S2x128x384.numel = S1x2x128x384.numel := squeezes_S1x2x128x384_S2x128x384.numel_eq
  funext x
  obtain ⟨y, rfl⟩ := (Shape.reshapeEquiv hn).surjective x
  exact View.read_write_reshape (M'.access (slotR s')) hn f ((slotM M s).view.read (Elt F) g) y

theorem amount_slot (d : Bool) (s : Fin 6) (q : DmaSem sig) : (slotM (rvM d) s).view.amount (.dma q) = N := by cases d <;> rfl

theorem pay_sent (d : Bool) (s : Fin 6) (f : Buf (Elt F) ((slotM (stM d) s).view.loc (c : Thread nD τ)))
    (hf : ((stM d).access (slotR s)).read (Elt F) f = sent m ρ d s.val c) :
    ((slotM (stM d) s).view.loc (c : Thread nD τ) ↦[(slotM (stM d) s).view.set]{fullShare} f)
      ⊢ (ringRd m ρ).payload (sCell d s c) 0 false := by
  rw [payload_x, set_slotM]
  show _ ⊢ slotOwn (stM d) s c (sent m ρ d s.val c)
  unfold slotOwn
  iintro H
  iexists f
  isplitr; · ipureintro; exact hf
  iexact H

theorem pay_landed (d : Bool) (s : Fin 6) (f : Buf (Elt F) ((slotM (stM d) s).view.loc (c : Thread nD τ)))
    (g : Buf (Elt F) ((slotM (rvM d) s).view.loc (peer d c : Thread nD τ)))
    (hf : ((stM d).access (slotR s)).read (Elt F) f = sent m ρ d s.val c) :
    ((slotM (rvM d) s).view.loc (peer d c : Thread nD τ) ↦[(slotM (rvM d) s).view.set]{fullShare}
        ((slotM (rvM d) s).view.write (Elt F) g ((slotM (stM d) s).view.read (Elt F) f) Finset.univ))
      ⊢ (ringRd m ρ).payload (rCell d s (peer d c)) 0 false := by
  rw [payload_x, set_slotM]
  show _ ⊢ slotOwn (rvM d) s (peer d c) (sent m ρ d s.val (src d (peer d c)))
  rw [src_peer]
  unfold slotOwn
  iintro H
  iexists _
  isplitr [H]
  · ipureintro; exact (read_landed (stM d) (rvM d) s s g f).trans hf
  iexact H

/-- The transfer of step `s` in direction `d`, to the direction's peer. -/
theorem step_send (d : Bool) (s : Fin 6) (j : ℕ) (hj : place (d, s) = j) (n : Dev nD) (hn : n = peer d c)
    {hsc : (slotM (rvM d) s : Memref sig (Dev.tc n : Thread nD τ).2.kind .vmem S2x128x384 .bf16).view.ref.isScScratch = false}
    {hsrc : (slotM (stM d) s).view.WordExact} {hdst : (slotM (rvM d) s).view.WordExact}
    {hsem : DmaTarget.Typed .vmem (.dma (dmaS (d, true, s)))
      (.remote (Dev.tc n : Thread nD τ) (slotM (rvM d) s : Memref sig .tc .vmem S2x128x384 .bf16) (.dma (dmaS (d, false, s))) hsc)}
    {α : Type} {Q : α → sProp 𝕄} {k : PUnit → Prog (TpuEff nD τ sig (Elt F) Λ₀ .tc) α} :
    records m ρ K ⊢ iprop(ready d s c -∗ slotOwn (stM d) s c (sent m ρ d s.val c) -∗ slotAny (F := F) (rvM d) s (peer d c) -∗ owing c j
      -∗ ((flying d s c ∗ owing c (j + 1)) -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (slotM (stM d) s) (.remote (Dev.tc n : Thread nD τ) (slotM (rvM d) s) (.dma (dmaS (d, false, s))) hsc)
          (.dma (dmaS (d, true, s))) hsrc hdst hsem) k) Q) := by
  subst hn hj
  have key (fs : Buf (Elt F) ((slotM (stM d) s).view.loc (c : Thread nD τ))) (fd : Buf (Elt F) ((slotM (rvM d) s).view.loc (peer d c : Thread nD τ)))
      (hfs : ((stM d).access (slotR s)).read (Elt F) fs = sent m ρ d s.val c) (W : Waits sig Unit) :=
    Rounds.wp_send_pointsTo 𝒱₀ ER (ringRd m ρ) (c : Thread nD τ) none (defs := defs₀ (F := F)) (Γ := .empty) (κ₁ := K (c, some (d, false, s)))
      (κ₂ := K (peer d c, some (d, true, s))) (r₁ := 0) (r₂ := 0) (d₁ := false) (d₂ := false) (fd := fd)
      (hsc := hsc) (hsrc := hsrc) (hdst := hdst) (hsem := hsem) (k := k) (Q := Q)
      (mem_duties_x m ρ c (d, false, s)) (mem_duties_x m ρ (peer d c) (d, true, s)) () () N (amount_slot d s _)
      (amount_x m ρ c (d, false, s) false) (amount_x m ρ (peer d c) (d, true, s) false)
      (due c (place (d, s) + 1)) (due_place c (d, s)) (W := W) (pay_sent m ρ c d s fs hfs) (pay_landed m ρ c d s fs fd hfs) (Es := Set.univ)
  unfold ready slotAny slotOwn owing
  iintro #HR ⟨HtS, HtR, HaS, HaR, HcR⟩ ⟨%fs, %hfs, Hs⟩ ⟨%v, %fd, %hfd, Hd⟩ ⟨%W, HO⟩ Hk
  iapply (key fs fd hfs W) $$ [Hs Hd HO HtS HtR]
  · isplitr; · iapply (inv_at m ρ K (c, some (d, false, s))); iexact HR
    isplitr; · iapply (inv_at m ρ K (peer d c, some (d, true, s))); iexact HR
    isplitl [Hs]; · rw [set_slotM]; iexact Hs
    isplitl [Hd]; · rw [set_slotM]; iexact Hd
    isplitl [HO]; · iexact HO
    isplitl [HtS]; · iexact HtS
    isplitr; · iapply (reached_at m ρ K (c, some (d, false, s))); iexact HR
    isplitl [HtR]; · iexact HtR
    iapply (reached_at m ρ K (peer d c, some (d, true, s))); iexact HR
  iintro ⟨HcS, HO⟩
  iapply Hk
  unfold flying
  isplitr [HO]
  · isplitl [HaS]; · iexact HaS
    isplitl [HaR]; · iexact HaR
    isplitl [HcR] <;> iassumption
  iexists W; iexact HO

/-! ## Waits -/

theorem xPay_s (d : Bool) (s : Fin 6) : xPay m ρ c (d, false, s) = slotOwn (stM d) s c (sent m ρ d s.val c) := if_neg Bool.false_ne_true
theorem xPay_r (d : Bool) (s : Fin 6) : xPay m ρ c (d, true, s) = slotOwn (rvM d) s c (sent m ρ d s.val (src d c)) := if_pos rfl

/-- The wait on a transfer's cell, owing what lands later: the cell's payload comes with it. -/
theorem step_wait (x : Bool × Bool × Fin 6) (j : ℕ) (hj : 2 * x.2.2.val + 2 ≤ j) {sM dM : SM} (hN : dM.view.dmaCredit = N)
    {hsrc : sM.view.WordExact} {hdst : dM.view.WordExact} {α : Type} {Q : α → sProp 𝕄} {k : PUnit → Prog (TpuEff nD τ sig (Elt F) Λ₀ .tc) α} :
    records m ρ K ⊢ iprop(levAts L lv -∗ cred (tallyAt (xCell c x) () N) -∗ atPos ER (xCell c x) 0 ∅ 0 -∗ owing c j
      -∗ ((atPos ER (xCell c x) (0 + 1) ∅ 0 ∗ xPay m ρ c x ∗ owing c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (dmaS x) sM dM hsrc hdst) k) Q) := by
  unfold owing
  iintro #HR #Hlev Hc Hat ⟨%W, HO⟩ Hk
  iapply (Rounds.wp_wait_rest_token 𝒱₀ ER (ringRd m ρ) (c : Thread nD τ) none (κ := K (c, some x))
      (wpE_waitDma2_eq 𝒱₀ (c : Thread nD τ) none Set.univ) (Set.mem_univ _) () (O := due c j) (W := W) (R := 0) (m := 0) (T := ∅)
      (by rw [Nat.zero_add, hN, expect_x m ρ c x])) $$ [Hc HO Hat]
  · isplitr; · iapply (inv_at m ρ K (c, some x)); iexact HR
    isplitl [Hc]; · rw [hN]; iexact Hc
    isplitl [HO]; · iexact HO
    isplitr; · iapply (mayWait_x c x.1 x.2.1 x.2.2 j hj); iexact Hlev
    iexact Hat
  iintro ⟨HO, Hat, -, Hpay⟩
  iapply Hk
  isplitl [Hat]; · iexact Hat
  isplitl [Hpay]
  · iapply (Entails.of_eq (rest_x m ρ c x)); iexact Hpay
  iexists _; iexact HO

theorem step_gone (d : Bool) (s : Fin 6) (j : ℕ) (hj : 2 * s.val + 2 ≤ j)
    {hsrc : (slotM (rvM d) s).view.WordExact} {hdst : (slotM (stM d) s).view.WordExact} {α : Type} {Q : α → sProp 𝕄} {k : PUnit → Prog (TpuEff nD τ sig (Elt F) Λ₀ .tc) α} :
    records m ρ K ⊢ iprop(levAts L lv -∗ flying d s c -∗ owing c j
      -∗ ((gone d s c ∗ slotOwn (stM d) s c (sent m ρ d s.val c) ∗ owing c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (dmaS (d, false, s)) (slotM (rvM d) s) (slotM (stM d) s) hsrc hdst) k) Q) := by
  unfold flying gone
  iintro #HR #Hlev ⟨HaS, HaR, HcR, HcS⟩ HO Hk
  iapply (step_wait m ρ K c (d, false, s) j hj (by cases d <;> rfl)) $$ HR Hlev HcS HaS HO
  iintro ⟨HaS, Hpay, HO⟩
  iapply Hk
  isplitl [HaS HaR HcR]
  · isplitl [HaS]; · iexact HaS
    isplitl [HaR] <;> iassumption
  isplitl [Hpay]; · iapply (Entails.of_eq (xPay_s m ρ c d s)); iexact Hpay
  iexact HO

theorem step_over (d : Bool) (s : Fin 6) (j : ℕ) (hj : 2 * s.val + 2 ≤ j)
    {hsrc : (slotM (stM d) s).view.WordExact} {hdst : (slotM (rvM d) s).view.WordExact} {α : Type} {Q : α → sProp 𝕄} {k : PUnit → Prog (TpuEff nD τ sig (Elt F) Λ₀ .tc) α} :
    records m ρ K ⊢ iprop(levAts L lv -∗ gone d s c -∗ owing c j
      -∗ ((over d s c ∗ slotOwn (rvM d) s c (sent m ρ d s.val (src d c)) ∗ owing c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (dmaS (d, true, s)) (slotM (stM d) s) (slotM (rvM d) s) hsrc hdst) k) Q) := by
  unfold gone over
  iintro #HR #Hlev ⟨HaS, HaR, HcR⟩ HO Hk
  iapply (step_wait m ρ K c (d, true, s) j hj (by cases d <;> rfl)) $$ HR Hlev HcR HaR HO
  iintro ⟨HaR, Hpay, HO⟩
  iapply Hk
  isplitl [HaS HaR]
  · isplitl [HaS] <;> iassumption
  isplitl [Hpay]; · iapply (Entails.of_eq (xPay_r m ρ c d s)); iexact Hpay
  iexact HO

/-! ## The barrier -/

/-- The signal to the device whose transfers of direction `d` arrive here: the landing slots of that direction are lent to it. -/
theorem step_signal (d : Bool) (n : Dev nD) (hn : n = src d c) (O : CellTallies nD τ sig Unit) (W : Waits sig Unit) {k' : ℤ} (hk' : ((1 : ℕ) : ℤ) = k')
    {α : Type} {Q : α → sProp 𝕄} {k : PUnit → Prog (TpuEff nD τ sig (Elt F) Λ₀ .tc) α} :
    records m ρ K ⊢ iprop(dutyTok ER (barCell (src d c)) 0 d -∗ (bigSep Finset.univ fun s : Fin 6 => slotAny (F := F) (rvM d) s c)
      -∗ owes (c : Thread nD τ) (O + tallyAt (barCell (src d c)) () 1) W
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) barS k') k) Q) := by
  subst hn hk'
  iintro #HR Ht Hs HO Hk
  iapply (Rounds.wp_signal 𝒱₀ ER (ringRd m ρ) (c : Thread nD τ) none (dst := (src d c : Thread nD τ)) (κ := K (src d c, none))
      (d := d) (by rw [duties_bar]; exact Finset.mem_univ _) (amount_bar m ρ (src d c) d) () O rfl) $$ [Ht Hs HO]
  · isplitr; · iapply (inv_at m ρ K (src d c, none)); iexact HR
    isplitl [HO]; · iexact HO
    isplitl [Ht]; · iexact Ht
    isplitl [Hs]
    · rw [payload_bar]; unfold barPay; rw [peer_src]; iexact Hs
    · iapply (reached_at m ρ K (src d c, none)); iexact HR
  iexact Hk

/-- The wait for both neighbours: each lends its landing slots of the direction that goes to it. -/
theorem step_barrier (W : Waits sig Unit) {k' : ℕ} (hk' : k' = 2)
    {α : Type} {Q : α → sProp 𝕄} {k : PUnit → Prog (TpuEff nD τ sig (Elt F) Λ₀ .tc) α} :
    records m ρ K ⊢ iprop(levAts L lv -∗ cred (tallyAt (barCell c) () 2) -∗ atPos ER (barCell c) 0 ∅ 0 -∗ owes (c : Thread nD τ) (due c 0) W
      -∗ ((atPos ER (barCell c) (0 + 1) ∅ 0 ∗ barPay (F := F) c false ∗ barPay (F := F) c true ∗ owing c 0)
        -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q) := by
  subst hk'
  unfold owing
  iintro #HR #Hlev Hc Hat HO Hk
  iapply (Rounds.wp_wait_rest_token 𝒱₀ ER (ringRd m ρ) (c : Thread nD τ) none (κ := K (c, none))
      (wpE_semWait_eq 𝒱₀ (c : Thread nD τ) none Set.univ) (Set.mem_univ _) () (O := due c 0) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨Hf, Ht⟩
  iapply Hk
  isplitl [Hat]; · iexact Hat
  isplitl [Hf]; · iexact Hf
  isplitl [Ht]; · iexact Ht
  iexists _; iexact HO

/-! ## Chunks of the partial product and of the result -/

/-- The buffer of the partial product, once it is computed. -/
abbrev partOwn : sProp 𝕄 := ((c : Thread nD τ).loc cc0_scratch0) ↦{fullShare} (part m ρ c : (cc0_scratch0 : Ref sig .tc).ty.Contents (Elt F))

theorem step_chunk (j : Dev nD) (d : Bool) {o : Fin 3 → ℕ} (ho : o = chunkOff j d) {inb : ∀ a, o a + S2x128x384.size a ≤ S2x512x768.size a}
    {hl : (Memref.whole cc0_scratch0 : Memref sig .tc .vmem S2x512x768 .f32).view.LoadsAt (Rect.unit (s := S2x512x768) o S2x128x384.size inb).toLoadRect}
    {α : Type} {Q : α → sProp 𝕄} {k : ((Rect.unit (s := S2x512x768) o S2x128x384.size inb).toLoadRect.shape.Idx → Elt F .f32) → Prog (TpuEff nD τ sig (Elt F) Λ₀ .tc) α} :
    partOwn m ρ c ⊢ iprop((partOwn m ρ c -∗ wp frame (wpE (defs₀ (F := F)) 𝒱₀ (c : Thread nD τ) none) Set.univ (k (chunkAt m ρ c j d)) Q)
      -∗ wp frame (wpE (defs₀ (F := F)) 𝒱₀ (c : Thread nD τ) none) Set.univ
        (.op (.load (Memref.whole cc0_scratch0) (Rect.unit (s := S2x512x768) o S2x128x384.size inb).toLoadRect hl) k) Q) := by
  subst ho
  exact wp_load 𝒱₀ (c : Thread nD τ) none Set.univ (m := (Memref.whole cc0_scratch0 : Memref sig .tc .vmem S2x512x768 .f32)) (Finset.subset_univ _)

/-- The result's staging buffer, right on the chunks and halves in `S`. -/
def outOwn (S : Finset (Dev nD × Bool)) : sProp 𝕄 :=
  iprop(∃ f : Buf (Elt F) ((c : Thread nD τ).loc cc0_stg5_0), ⌜∀ i : S2x512x768.Idx, (rowOf i, halfOf i) ∈ S → f i = out m ρ c i⌝
    ∗ (((c : Thread nD τ).loc cc0_stg5_0) ↦{fullShare} f))

theorem step_outload (S : Finset (Dev nD × Bool)) {o : Fin 3 → ℕ} {inb : ∀ a, o a + S2x128x384.size a ≤ S2x512x768.size a}
    {hl : (Memref.whole cc0_stg5_0 : Memref sig .tc .vmem S2x512x768 .f32).view.LoadsAt (Rect.unit (s := S2x512x768) o S2x128x384.size inb).toLoadRect}
    {α : Type} {Q : α → sProp 𝕄} {k : ((Rect.unit (s := S2x512x768) o S2x128x384.size inb).toLoadRect.shape.Idx → Elt F .f32) → Prog (TpuEff nD τ sig (Elt F) Λ₀ .tc) α} :
    outOwn m ρ c S ⊢ iprop((∀ v, outOwn m ρ c S -∗ wp frame (wpE (defs₀ (F := F)) 𝒱₀ (c : Thread nD τ) none) Set.univ (k v) Q)
      -∗ wp frame (wpE (defs₀ (F := F)) 𝒱₀ (c : Thread nD τ) none) Set.univ
        (.op (.load (Memref.whole cc0_stg5_0) (Rect.unit (s := S2x512x768) o S2x128x384.size inb).toLoadRect hl) k) Q) := by
  unfold outOwn
  iintro ⟨%f, %hf, H⟩ Hk
  iapply (wp_load 𝒱₀ (c : Thread nD τ) none Set.univ (m := (Memref.whole cc0_stg5_0 : Memref sig .tc .vmem S2x512x768 .f32)) (Finset.subset_univ _)) $$ H
  iintro H
  iapply Hk
  iexists f
  isplitr; · ipureintro; exact hf
  iexact H

/-- An index of the result is its place in its chunk. -/
theorem emb_within (i : S2x512x768.Idx) : (chunkR (rowOf i) (halfOf i)).emb (within i) = i := by
  have h1 : (i 1).val / 128 * 128 + (i 1).val % 128 = (i 1).val := Nat.div_add_mod' _ _
  have h2 : (if halfOf i then 384 else 0) + (i 2).val % 384 = (i 2).val := by
    have := (i 2).isLt
    have h768 : S2x512x768.size 2 = 768 := rfl
    unfold halfOf
    by_cases h : 384 ≤ (i 2).val
    · rw [decide_eq_true h, if_pos rfl]; omega
    · rw [decide_eq_false h, if_neg Bool.false_ne_true]; omega
  refine Shape.idx3_ext ?_ ?_ ?_
  · show 0 + 1 * (i 0).val = _; omega
  · show 128 * ((i 1).val / 128) + 1 * ((i 1).val % 128) = _; omega
  · show (if halfOf i then 384 else 0) + 1 * ((i 2).val % 384) = _; omega
theorem row_emb (j : Dev nD) (d : Bool) (x : S2x128x384.Idx) : rowOf ((chunkR j d).emb x) = j := by
  refine Fin.ext ?_
  show (128 * j.val + 1 * (x 1).val) / 128 = _
  have h : (x 1).val < 128 := (x 1).isLt
  omega
theorem half_emb (j : Dev nD) (d : Bool) (x : S2x128x384.Idx) : halfOf ((chunkR j d).emb x) = d := by
  show decide (384 ≤ (if d then 384 else 0) + 1 * (x 2).val) = d
  have h : (x 2).val < 384 := (x 2).isLt
  cases d
  · exact decide_eq_false (by simp only [Bool.false_eq_true, if_false]; omega)
  · exact decide_eq_true (by simp only [if_true]; omega)

/-- A write of chunk `(j, d)` of the result's buffer, at an index. -/
theorem write_chunk (f : (Memref.whole cc0_stg5_0 : Memref sig .tc .vmem S2x512x768 .f32).view.ty.Contents (Elt F)) (j : Dev nD) (d : Bool) (w : Vec F S2x128x384 .f32) (i : S2x512x768.Idx) :
    ((Memref.whole cc0_stg5_0 : Memref sig .tc .vmem S2x512x768 .f32).access (chunkR j d)).write (Elt F) f w Finset.univ i
      = if (rowOf i, halfOf i) = (j, d) then w (within i) else f i := by
  split
  · next h =>
    obtain ⟨rfl, rfl⟩ := Prod.mk.inj h
    have key : ∀ x, ((Memref.whole cc0_stg5_0 : Memref sig .tc .vmem S2x512x768 .f32).access (chunkR (rowOf i) (halfOf i))).write (Elt F) f w Finset.univ
        ((chunkR (rowOf i) (halfOf i)).emb x) = w x := fun x =>
      View.write_emb_of_mem (v := (Memref.whole cc0_stg5_0 : Memref sig .tc .vmem S2x512x768 .f32).access (chunkR (rowOf i) (halfOf i))) f w (Finset.mem_univ x)
    have hv := key (within i)
    rwa [emb_within] at hv
  · next h =>
    refine View.write_of_not_mem _ _ _ ?_
    intro hmem
    obtain ⟨x, -, hx⟩ := Finset.mem_map.mp hmem
    have hx' : (chunkR j d).emb x = i := hx
    exact h (by rw [← hx', row_emb, half_emb])

theorem step_out (S : Finset (Dev nD × Bool)) (d : Bool) (t : Fin 4) {w : Vec F S2x128x384 .f32} (hw : w = resAt m ρ d c t.val)
    {o : Fin 3 → ℕ} (ho : o = chunkOff (hop d c t.val) d) {inb : ∀ a, o a + S2x128x384.size a ≤ S2x512x768.size a}
    {hx : ((Memref.whole cc0_stg5_0 : Memref sig .tc .vmem S2x512x768 .f32).access (Rect.unit (s := S2x512x768) o S2x128x384.size inb)).Stores Finset.univ}
    {hm : (Finset.univ : Finset (Rect.unit (s := S2x512x768) o S2x128x384.size inb).shape.Idx) = Finset.univ ∨ ∀ a, (Rect.unit (s := S2x512x768) o S2x128x384.size inb).stride a = 1}
    {α : Type} {Q : α → sProp 𝕄} {k : PUnit → Prog (TpuEff nD τ sig (Elt F) Λ₀ .tc) α} :
    outOwn m ρ c S ⊢ iprop((outOwn m ρ c (insert (hop d c t.val, d) S) -∗ wp frame (wpE (defs₀ (F := F)) 𝒱₀ (c : Thread nD τ) none) Set.univ (k ⟨⟩) Q)
      -∗ wp frame (wpE (defs₀ (F := F)) 𝒱₀ (c : Thread nD τ) none) Set.univ
        (.op (.store (Memref.whole cc0_stg5_0) (Rect.unit (s := S2x512x768) o S2x128x384.size inb) w Finset.univ hx hm) k) Q) := by
  subst ho hw
  unfold outOwn
  iintro ⟨%f, %hf, H⟩ Hk
  iapply (wp_store 𝒱₀ (c : Thread nD τ) none Set.univ (m := (Memref.whole cc0_stg5_0 : Memref sig .tc .vmem S2x512x768 .f32))
    (r := chunkR (hop d c t.val) d) (Mk := Finset.univ) (S := Finset.univ) (f := f) (Finset.subset_univ _)) $$ H
  iintro H
  iapply Hk
  iexists _
  isplitr [H]; rotate_left; iexact H
  ipureintro
  intro i hi
  rw [write_chunk]
  split
  · next h =>
    obtain ⟨hr, hh⟩ := Prod.mk.inj h
    unfold out
    rw [hr, hh, dist_hop]
  · next h => exact hf i ((Finset.mem_insert.mp hi).resolve_left h)

end Rules

end Cert.KernelIdeal.Ring
-- ==== Proof.KernelIdeal.Ops.lean ====
/-
The printed parts of the body are taken at the kernel's own buffers and semaphores; what a slot allows when nothing is known
of what it holds; and what a transfer's invariants and levels are, in one piece.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-- A printed part at the kernel's buffers. -/
abbrev atArgs {β : Type 1} (p : (a0 : Memref sig .tc .vmem S2x512x768 .f32) → a0.IsWhole → (a1 : Memref sig .tc .vmem S768x2048 .f32) → a1.IsWhole →
    (a2 : Memref sig .tc .vmem S2x512x8x64 .f32) → a2.IsWhole → (a3 : Memref sig .tc .vmem S2x512x8x64 .f32) → a3.IsWhole →
    (a4 : Memref sig .tc .vmem S2048x768 .f32) → a4.IsWhole → (a5 : Memref sig .tc .vmem S2x512x768 .f32) → a5.IsWhole →
    (a6 : Memref sig .tc .vmem S2x512x768 .f32) → a6.IsWhole → (a7 : CM) → a7.IsWhole → (a8 : CM) → a8.IsWhole → (a9 : CM) → a9.IsWhole →
    (a10 : CM) → a10.IsWhole → DmaSems sig S6 → DmaSems sig S6 → DmaSems sig S6 → DmaSems sig S6 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8

/-- The body's weakest precondition on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the transfers' rules read: the cells' invariants, their rounds, the levels. -/
def env : sProp 𝕄 := iprop(records m ρ K ∗ levAts L lv)
instance env_persistent : BI.Persistent (env m ρ K) := by unfold env; infer_instance

/-- A slot of a direction's sending or landing buffer, holding what is sent from here or to here at that step. -/
abbrev stS (d : Bool) (s : Fin 6) : sProp 𝕄 := slotOwn (stM d) s c (sent m ρ d s.val c)
abbrev rvS (d : Bool) (s : Fin 6) : sProp 𝕄 := slotOwn (rvM d) s c (sent m ρ d s.val (src d c))
/-- Nothing is known of what the slot holds: a sending slot here, a landing slot on the direction's peer. -/
abbrev stA (d : Bool) (s : Fin 6) : sProp 𝕄 := slotAny (F := F) (stM d) s c
abbrev rvA (d : Bool) (s : Fin 6) : sProp 𝕄 := slotAny (F := F) (rvM d) s (peer d c)

/-- The staged operands. -/
abbrev xOwn : sProp 𝕄 := ((c : Thread nD τ).loc cc0_stg0_0) ↦{fullShare} xs m ρ c
abbrev wqOwn : sProp 𝕄 := ((c : Thread nD τ).loc cc0_stg1_0) ↦{fullShare} wqs m ρ c
abbrev kOwn : sProp 𝕄 := ((c : Thread nD τ).loc cc0_stg2_0) ↦{fullShare} ks m ρ c
abbrev vOwn : sProp 𝕄 := ((c : Thread nD τ).loc cc0_stg3_0) ↦{fullShare} vs m ρ c
abbrev woOwn : sProp 𝕄 := ((c : Thread nD τ).loc cc0_stg4_0) ↦{fullShare} wos m ρ c

/-! ## The payloads of the exchange, in four forms -/

theorem pay33_eq : k0_pay33 (F := F) = fromWire := rfl
theorem pay38_eq : k0_pay38 (F := F) = fromWire := rfl
theorem pay42_eq : k0_pay42 (F := F) = fromWire := rfl
theorem pay48_eq : k0_pay48 (F := F) = fromWire := rfl
theorem pay51_eq : k0_pay51 (F := F) = fromWire := rfl
theorem pay52_eq : k0_pay52 (F := F) = fromWire := rfl
theorem pay34_eq : k0_pay34 (F := F) = accum := rfl
theorem pay37_eq : k0_pay37 (F := F) = accum := rfl
theorem pay39_eq (w : Vec F S1x2x128x384 .bf16) (v : Vec F S2x128x384 .f32) : k0_pay39 (fromWire w) v = accum w v := rfl
theorem pay35_eq : k0_pay35 (fromWire (sent m ρ false (1 : Fin 6).val (src false c))) (chunkAt m ρ c (hop false c 2) false)
    = sent m ρ false (2 : Fin 6).val c := rfl

/-- The last three transfers forward what arrived. -/
theorem sent_fwd (d : Bool) (s : ℕ) (hs : 3 ≤ s) : again (sent m ρ d s (src d c)) = sent m ρ d (s + 1) c := (if_neg (Nat.not_lt.2 hs)).symm

section Rules

variable {α : Type}

theorem done {Q : α → sProp 𝕄} {a : α} : Q a ⊢ WP c (.ret a : Prog (TpuEff nD τ sig (Elt F) Λ₀ .tc) α) Q := by
  show Q a ⊢ wp frame (wpE (defs₀ (F := F)) 𝒱₀ (c : Thread nD τ) none) Set.univ (.ret a) Q
  rw [wp_ret]
  exact fupd_intro

/-- Reading the other operands. -/
theorem step_ldX {hl : (Memref.whole cc0_stg0_0 : Memref sig .tc .vmem S2x512x768 .f32).view.LoadsAt (Rect.unit (s := S2x512x768) ![0, 0, 0] S2x512x768.size inb_S2x512x768_S2x512x768_0_0_0).toLoadRect}
    {Q : α → sProp 𝕄} {k : ((Rect.unit (s := S2x512x768) ![0, 0, 0] S2x512x768.size inb_S2x512x768_S2x512x768_0_0_0).toLoadRect.shape.Idx → Elt F .f32) → Prog (TpuEff nD τ sig (Elt F) Λ₀ .tc) α} :
    xOwn m ρ c ⊢ iprop((xOwn m ρ c -∗ WP c (k (ldX m ρ c)) Q) -∗ WP c (.op (.load (Memref.whole cc0_stg0_0) (Rect.unit (s := S2x512x768) ![0, 0, 0] S2x512x768.size inb_S2x512x768_S2x512x768_0_0_0).toLoadRect hl) k) Q) :=
  wp_load 𝒱₀ (c : Thread nD τ) none Set.univ (m := (Memref.whole cc0_stg0_0 : Memref sig .tc .vmem S2x512x768 .f32)) (Finset.subset_univ _)
theorem step_ldWq {hl : (Memref.whole cc0_stg1_0 : Memref sig .tc .vmem S768x2048 .f32).view.LoadsAt (Rect.unit (s := S768x2048) (k0_off1 c) S768x512.size (k0_off1_inb c)).toLoadRect}
    {Q : α → sProp 𝕄} {k : ((Rect.unit (s := S768x2048) (k0_off1 c) S768x512.size (k0_off1_inb c)).toLoadRect.shape.Idx → Elt F .f32) → Prog (TpuEff nD τ sig (Elt F) Λ₀ .tc) α} :
    wqOwn m ρ c ⊢ iprop((wqOwn m ρ c -∗ WP c (k (ldWq m ρ c)) Q) -∗ WP c (.op (.load (Memref.whole cc0_stg1_0) (Rect.unit (s := S768x2048) (k0_off1 c) S768x512.size (k0_off1_inb c)).toLoadRect hl) k) Q) :=
  wp_load 𝒱₀ (c : Thread nD τ) none Set.univ (m := (Memref.whole cc0_stg1_0 : Memref sig .tc .vmem S768x2048 .f32)) (Finset.subset_univ _)
theorem step_ldWo {hl : (Memref.whole cc0_stg4_0 : Memref sig .tc .vmem S2048x768 .f32).view.LoadsAt (Rect.unit (s := S2048x768) (k0_off2 c) S512x768.size (k0_off2_inb c)).toLoadRect}
    {Q : α → sProp 𝕄} {k : ((Rect.unit (s := S2048x768) (k0_off2 c) S512x768.size (k0_off2_inb c)).toLoadRect.shape.Idx → Elt F .f32) → Prog (TpuEff nD τ sig (Elt F) Λ₀ .tc) α} :
    woOwn m ρ c ⊢ iprop((woOwn m ρ c -∗ WP c (k (ldWo m ρ c)) Q) -∗ WP c (.op (.load (Memref.whole cc0_stg4_0) (Rect.unit (s := S2048x768) (k0_off2 c) S512x768.size (k0_off2_inb c)).toLoadRect hl) k) Q) :=
  wp_load 𝒱₀ (c : Thread nD τ) none Set.univ (m := (Memref.whole cc0_stg4_0 : Memref sig .tc .vmem S2048x768 .f32)) (Finset.subset_univ _)

/-- Reading one head of the keys, or of the values. -/
theorem step_ldK (b : Fin 2) (h : Fin 8) {hl : (Memref.whole cc0_stg2_0 : Memref sig .tc .vmem S2x512x8x64 .f32).view.LoadsAt (headR b h).toLoadRect}
    {Q : α → sProp 𝕄} {k : ((headR b h).toLoadRect.shape.Idx → Elt F .f32) → Prog (TpuEff nD τ sig (Elt F) Λ₀ .tc) α} :
    kOwn m ρ c ⊢ iprop((kOwn m ρ c -∗ WP c (k (ldK m ρ c b h)) Q) -∗ WP c (.op (.load (Memref.whole cc0_stg2_0) (headR b h).toLoadRect hl) k) Q) :=
  wp_load 𝒱₀ (c : Thread nD τ) none Set.univ (m := (Memref.whole cc0_stg2_0 : Memref sig .tc .vmem S2x512x8x64 .f32)) (Finset.subset_univ _)
theorem step_ldV (b : Fin 2) (h : Fin 8) {hl : (Memref.whole cc0_stg3_0 : Memref sig .tc .vmem S2x512x8x64 .f32).view.LoadsAt (headR b h).toLoadRect}
    {Q : α → sProp 𝕄} {k : ((headR b h).toLoadRect.shape.Idx → Elt F .f32) → Prog (TpuEff nD τ sig (Elt F) Λ₀ .tc) α} :
    vOwn m ρ c ⊢ iprop((vOwn m ρ c -∗ WP c (k (ldV m ρ c b h)) Q) -∗ WP c (.op (.load (Memref.whole cc0_stg3_0) (headR b h).toLoadRect hl) k) Q) :=
  wp_load 𝒱₀ (c : Thread nD τ) none Set.univ (m := (Memref.whole cc0_stg3_0 : Memref sig .tc .vmem S2x512x8x64 .f32)) (Finset.subset_univ _)

/-- Reading a slot of which nothing is known. -/
theorem step_peek (M : CM) (s : Fin 6) {hl : M.view.LoadsAt (slotR s).toLoadRect}
    {Q : α → sProp 𝕄} {k : ((slotR s).toLoadRect.shape.Idx → Elt F .bf16) → Prog (TpuEff nD τ sig (Elt F) Λ₀ .tc) α} :
    slotAny (F := F) M s c ⊢ iprop((∀ v, slotAny (F := F) M s c -∗ WP c (k v) Q) -∗ WP c (.op (.load M (slotR s).toLoadRect hl) k) Q) := by
  unfold slotAny
  iintro ⟨%v, H⟩ Hk
  iapply (step_load c M s v) $$ H
  iintro H
  iapply Hk
  iexists v; iexact H

/-- Writing it. -/
theorem step_put (M : CM) (s : Fin 6) (w : Vec F S1x2x128x384 .bf16) {w' : Vec F S1x2x128x384 .bf16} (hw : w' = w) {hx : (M.access (slotR s)).Stores Finset.univ}
    {hm : (Finset.univ : Finset (slotR s).shape.Idx) = Finset.univ ∨ ∀ a, (slotR s).stride a = 1}
    {Q : α → sProp 𝕄} {k : PUnit → Prog (TpuEff nD τ sig (Elt F) Λ₀ .tc) α} :
    slotAny (F := F) M s c ⊢ iprop((slotOwn (F := F) M s c w -∗ WP c (k ⟨⟩) Q)
      -∗ WP c (.op (.store M (slotR s) w' Finset.univ hx hm) k) Q) := by
  subst hw
  unfold slotAny
  iintro ⟨%v, H⟩ Hk
  iapply (step_store c M s v w') $$ H
  iexact Hk

end Rules

end Cert.KernelIdeal.Ring
-- ==== Proof.KernelIdeal.Parts1.lean ====
/-
The parts of the body before the ring: the barrier, and the device's own partial product.
-/
module

public import proofs.«01_k».proof.Proof.KernelIdeal.Ops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-- What a device holds before its barrier, and after it. -/
def before : sProp 𝕄 :=
  iprop(dutyTok ER (barCell (src false c)) 0 false ∗ dutyTok ER (barCell (src true c)) 0 true
    ∗ (bigSep Finset.univ fun s : Fin 6 => slotAny (F := F) (rvM false) s c) ∗ (bigSep Finset.univ fun s : Fin 6 => slotAny (F := F) (rvM true) s c)
    ∗ cred (tallyAt (barCell c) () 2) ∗ atPos ER (barCell c) 0 ∅ 0 ∗ ∃ W, owes (c : Thread nD τ) (due₀ c) W)
def passed : sProp 𝕄 := iprop(atPos ER (barCell c) (0 + 1) ∅ 0 ∗ barPay (F := F) c false ∗ barPay (F := F) c true ∗ owing c 0)

theorem part1 {Q : (Σ' (_ : Dev nD) (_ : BitVec 32) (_ : BitVec 32) (_ : BitVec 32), BitVec 32) → sProp 𝕄} :
    env m ρ K ⊢ iprop(before (F := F) c -∗ (∀ w1 w2 w3 w4, passed (F := F) c -∗ Q ⟨c, w1, w2, w3, w4⟩) -∗ WP c (atArgs (k0_part1 (F := F))) Q) := by
  simp only [atArgs, k0_part1_eq_skeleton]; unfold k0_part1_skel
  simp only [WP, semSignalWord, semWaitWord, Prog.lift, Prog.bind_op, Prog.bind_ret, Prog.pure_eq_ret, Prog.bind_assoc, wp_deviceId]
  unfold env before due₀ due₁
  iintro ⟨#HR, #HL⟩ ⟨Df, Dt, Sf, St, HC, HA, %W, HO⟩ Hk
  iapply (step_signal m ρ K c false _ (dev1_eq c) (due c 0 + tallyAt (barCell (src true c)) () 1) W (by decide)) $$ HR Df Sf HO; iintro HO
  iapply (step_signal m ρ K c true _ (dev2_eq c) (due c 0) W (by decide)) $$ HR Dt St HO; iintro HO
  iapply (step_barrier m ρ K c W (by decide)) $$ HR HL HC HA HO; iintro H
  iapply (done c)
  iapply Hk $$ %_ %_ %_ %_
  unfold passed
  iexact H

theorem part2 (w : BitVec 32) {Q : (Σ' (_ : FVec F S512x768 .f32) (_ : FVec F S512x512 .f32) (_ : FVec F S1024x512 .f32) (_ : FVec F S512x64 .f32), FVec F S512x64 .f32) → sProp 𝕄} :
    xOwn m ρ c ⊢ iprop(wqOwn m ρ c -∗ woOwn m ρ c -∗ kOwn m ρ c -∗ vOwn m ρ c
      -∗ (xOwn m ρ c -∗ wqOwn m ρ c -∗ woOwn m ρ c -∗ kOwn m ρ c -∗ vOwn m ρ c
        -∗ Q ⟨k0_pay1 (ldWo m ρ c), k0_pay2, (k0_pay3 (ldWq m ρ c) (ldX m ρ c)), k0_pay4 (ldWq m ρ c) (ldX m ρ c) (ldK m ρ c 0 0) (ldV m ρ c 0 0), k0_pay5 (ldWq m ρ c) (ldX m ρ c)⟩)
      -∗ WP c (atArgs (k0_part2 (F := F)) c w) Q) := by
  simp only [atArgs, k0_part2_eq_skeleton]; unfold k0_part2_skel
  simp only [Prog.lift, Prog.bind_op, Prog.bind_ret, Prog.pure_eq_ret, Prog.bind_assoc]
  iintro HX HQ HW HK HV Hk
  iapply (step_ldWq m ρ c) $$ HQ; iintro HQ
  iapply (step_ldWo m ρ c) $$ HW; iintro HW
  iapply (step_ldX m ρ c) $$ HX; iintro HX
  iapply (step_ldK m ρ c 0 0) $$ HK; iintro HK
  iapply (step_ldV m ρ c 0 0) $$ HV; iintro HV
  iapply (done c)
  iapply Hk $$ HX HQ HW HK HV

theorem part3 (v45 : FVec F S512x512 .f32) (v51 : FVec F S1024x512 .f32) (v65 : FVec F S512x64 .f32) {Q : (Σ' (_ : FVec F S512x64 .f32) (_ : FVec F S512x64 .f32) (_ : FVec F S512x64 .f32), FVec F S512x512 .f32) → sProp 𝕄} :
    kOwn m ρ c ⊢ iprop(vOwn m ρ c -∗ (kOwn m ρ c -∗ vOwn m ρ c -∗ Q ⟨k0_pay6 v45 v65 (ldK m ρ c 0 1) (ldV m ρ c 0 1), k0_pay7 v45 v51 (ldK m ρ c 0 2) (ldV m ρ c 0 2), k0_pay8 (ldV m ρ c 0 3), k0_pay9 v45 v51 (ldK m ρ c 0 3)⟩) -∗ WP c (atArgs (k0_part3 (F := F)) v45 v51 v65) Q) := by
  simp only [atArgs, k0_part3_eq_skeleton]; unfold k0_part3_skel
  simp only [Prog.lift, Prog.bind_op, Prog.bind_ret, Prog.pure_eq_ret, Prog.bind_assoc]
  iintro HK HV Hk
  iapply (step_ldK m ρ c 0 1) $$ HK; iintro HK
  iapply (step_ldV m ρ c 0 1) $$ HV; iintro HV
  iapply (step_ldK m ρ c 0 2) $$ HK; iintro HK
  iapply (step_ldV m ρ c 0 2) $$ HV; iintro HV
  iapply (step_ldK m ρ c 0 3) $$ HK; iintro HK
  iapply (step_ldV m ρ c 0 3) $$ HV; iintro HV
  iapply (done c)
  iapply Hk $$ HK HV

theorem part4 (v45 : FVec F S512x512 .f32) (v51 : FVec F S1024x512 .f32) (v95 : FVec F S512x64 .f32) (v98 : FVec F S512x512 .f32) {Q : (Σ' (_ : FVec F S512x64 .f32) (_ : FVec F S512x64 .f32) (_ : FVec F S512x64 .f32), FVec F S512x64 .f32) → sProp 𝕄} :
    kOwn m ρ c ⊢ iprop(vOwn m ρ c -∗ (kOwn m ρ c -∗ vOwn m ρ c -∗ Q ⟨k0_pay10 v95 v98, k0_pay11 v45 v51 (ldK m ρ c 0 4) (ldV m ρ c 0 4), k0_pay12 v45 v51 (ldK m ρ c 0 5) (ldV m ρ c 0 5), k0_pay13 v51⟩) -∗ WP c (atArgs (k0_part4 (F := F)) v45 v51 v95 v98) Q) := by
  simp only [atArgs, k0_part4_eq_skeleton]; unfold k0_part4_skel
  simp only [Prog.lift, Prog.bind_op, Prog.bind_ret, Prog.pure_eq_ret, Prog.bind_assoc]
  iintro HK HV Hk
  iapply (step_ldK m ρ c 0 4) $$ HK; iintro HK
  iapply (step_ldV m ρ c 0 4) $$ HV; iintro HV
  iapply (step_ldK m ρ c 0 5) $$ HK; iintro HK
  iapply (step_ldV m ρ c 0 5) $$ HV; iintro HV
  iapply (done c)
  iapply Hk $$ HK HV

theorem part5 (v45 : FVec F S512x512 .f32) (v51 : FVec F S1024x512 .f32) (v64 : FVec F S512x64 .f32) (v77 : FVec F S512x64 .f32) (v90 : FVec F S512x64 .f32) (v103 : FVec F S512x64 .f32) (v116 : FVec F S512x64 .f32) (v129 : FVec F S512x64 .f32) (v130 : FVec F S512x64 .f32) {Q : (Σ' (_ : FVec F S512x512 .f32) (_ : FVec F S512x64 .f32), FVec F S512x512 .f32) → sProp 𝕄} :
    kOwn m ρ c ⊢ iprop(vOwn m ρ c -∗ (kOwn m ρ c -∗ vOwn m ρ c -∗ Q ⟨k0_pay14 v45 v51 v64 v77 v90 v103 v116 v129 v130 (ldK m ρ c 0 6) (ldV m ρ c 0 6) (ldK m ρ c 0 7) (ldV m ρ c 0 7), k0_pay15 (ldV m ρ c 1 0), k0_pay16 v51 (ldK m ρ c 1 0)⟩) -∗ WP c (atArgs (k0_part5 (F := F)) v45 v51 v64 v77 v90 v103 v116 v129 v130) Q) := by
  simp only [atArgs, k0_part5_eq_skeleton]; unfold k0_part5_skel
  simp only [Prog.lift, Prog.bind_op, Prog.bind_ret, Prog.pure_eq_ret, Prog.bind_assoc]
  iintro HK HV Hk
  iapply (step_ldK m ρ c 0 6) $$ HK; iintro HK
  iapply (step_ldV m ρ c 0 6) $$ HV; iintro HV
  iapply (step_ldK m ρ c 0 7) $$ HK; iintro HK
  iapply (step_ldV m ρ c 0 7) $$ HV; iintro HV
  iapply (step_ldK m ρ c 1 0) $$ HK; iintro HK
  iapply (step_ldV m ρ c 1 0) $$ HV; iintro HV
  iapply (done c)
  iapply Hk $$ HK HV

theorem part6 (v45 : FVec F S512x512 .f32) (v51 : FVec F S1024x512 .f32) (v161 : FVec F S512x64 .f32) (v163 : FVec F S512x512 .f32) {Q : (Σ' (_ : FVec F S512x64 .f32) (_ : FVec F S512x64 .f32) (_ : FVec F S512x64 .f32), FVec F S512x64 .f32) → sProp 𝕄} :
    kOwn m ρ c ⊢ iprop(vOwn m ρ c -∗ (kOwn m ρ c -∗ vOwn m ρ c -∗ Q ⟨k0_pay17 v45 v161 v163, k0_pay18 v45 v51 (ldK m ρ c 1 1) (ldV m ρ c 1 1), k0_pay19 v45 v51 (ldK m ρ c 1 2) (ldV m ρ c 1 2), k0_pay20 v51⟩) -∗ WP c (atArgs (k0_part6 (F := F)) v45 v51 v161 v163) Q) := by
  simp only [atArgs, k0_part6_eq_skeleton]; unfold k0_part6_skel
  simp only [Prog.lift, Prog.bind_op, Prog.bind_ret, Prog.pure_eq_ret, Prog.bind_assoc]
  iintro HK HV Hk
  iapply (step_ldK m ρ c 1 1) $$ HK; iintro HK
  iapply (step_ldV m ρ c 1 1) $$ HV; iintro HV
  iapply (step_ldK m ρ c 1 2) $$ HK; iintro HK
  iapply (step_ldV m ρ c 1 2) $$ HV; iintro HV
  iapply (done c)
  iapply Hk $$ HK HV

theorem part7 (v45 : FVec F S512x512 .f32) (v51 : FVec F S1024x512 .f32) (v196 : FVec F S512x64 .f32) {Q : (Σ' (_ : FVec F S512x64 .f32) (_ : FVec F S512x64 .f32) (_ : FVec F S512x64 .f32), FVec F S512x512 .f32) → sProp 𝕄} :
    kOwn m ρ c ⊢ iprop(vOwn m ρ c -∗ (kOwn m ρ c -∗ vOwn m ρ c -∗ Q ⟨k0_pay21 v45 v196 (ldK m ρ c 1 3) (ldV m ρ c 1 3), k0_pay22 v45 v51 (ldK m ρ c 1 4) (ldV m ρ c 1 4), k0_pay23 (ldV m ρ c 1 5), k0_pay24 v51 (ldK m ρ c 1 5)⟩) -∗ WP c (atArgs (k0_part7 (F := F)) v45 v51 v196) Q) := by
  simp only [atArgs, k0_part7_eq_skeleton]; unfold k0_part7_skel
  simp only [Prog.lift, Prog.bind_op, Prog.bind_ret, Prog.pure_eq_ret, Prog.bind_assoc]
  iintro HK HV Hk
  iapply (step_ldK m ρ c 1 3) $$ HK; iintro HK
  iapply (step_ldV m ρ c 1 3) $$ HV; iintro HV
  iapply (step_ldK m ρ c 1 4) $$ HK; iintro HK
  iapply (step_ldV m ρ c 1 4) $$ HV; iintro HV
  iapply (step_ldK m ρ c 1 5) $$ HK; iintro HK
  iapply (step_ldV m ρ c 1 5) $$ HV; iintro HV
  iapply (done c)
  iapply Hk $$ HK HV

theorem part8 (v36 : FVec F S512x768 .f32) (v45 : FVec F S512x512 .f32) (v51 : FVec F S1024x512 .f32) (v156 : FVec F S512x512 .f32) (v169 : FVec F S512x64 .f32) (v182 : FVec F S512x64 .f32) (v195 : FVec F S512x64 .f32) (v208 : FVec F S512x64 .f32) (v221 : FVec F S512x64 .f32) (v226 : FVec F S512x64 .f32) (v228 : FVec F S512x512 .f32) {Q : FVec F S1024x768 .f32 → sProp 𝕄} :
    kOwn m ρ c ⊢ iprop(vOwn m ρ c -∗ (kOwn m ρ c -∗ vOwn m ρ c -∗ Q (k0_pay25 v36 v45 v51 v156 v169 v182 v195 v208 v221 v226 v228 (ldK m ρ c 1 6) (ldV m ρ c 1 6) (ldK m ρ c 1 7) (ldV m ρ c 1 7))) -∗ WP c (atArgs (k0_part8 (F := F)) v36 v45 v51 v156 v169 v182 v195 v208 v221 v226 v228) Q) := by
  simp only [atArgs, k0_part8_eq_skeleton]; unfold k0_part8_skel
  simp only [Prog.lift, Prog.bind_op, Prog.bind_ret, Prog.pure_eq_ret, Prog.bind_assoc]
  iintro HK HV Hk
  iapply (step_ldK m ρ c 1 6) $$ HK; iintro HK
  iapply (step_ldV m ρ c 1 6) $$ HV; iintro HV
  iapply (step_ldK m ρ c 1 7) $$ HK; iintro HK
  iapply (step_ldV m ρ c 1 7) $$ HV; iintro HV
  iapply (done c)
  iapply Hk $$ HK HV

/-- A write of the whole partial product. -/
theorem write_part (f : (Memref.whole cc0_scratch0 : Memref sig .tc .vmem S2x512x768 .f32).view.ty.Contents (Elt F)) (w : Vec F S2x512x768 .f32) :
    ((Memref.whole cc0_scratch0 : Memref sig .tc .vmem S2x512x768 .f32).access
      (Rect.unit (s := S2x512x768) ![0, 0, 0] S2x512x768.size inb_S2x512x768_S2x512x768_0_0_0)).write (Elt F) f w Finset.univ = w := by
  have key : ∀ x, ((Memref.whole cc0_scratch0 : Memref sig .tc .vmem S2x512x768 .f32).access
      (Rect.unit (s := S2x512x768) ![0, 0, 0] S2x512x768.size inb_S2x512x768_S2x512x768_0_0_0)).write (Elt F) f w Finset.univ
        ((Rect.unit (s := S2x512x768) ![0, 0, 0] S2x512x768.size inb_S2x512x768_S2x512x768_0_0_0).emb x) = w x := fun x =>
    View.write_emb_of_mem (v := (Memref.whole cc0_scratch0 : Memref sig .tc .vmem S2x512x768 .f32).access
      (Rect.unit (s := S2x512x768) ![0, 0, 0] S2x512x768.size inb_S2x512x768_S2x512x768_0_0_0)) f w (Finset.mem_univ x)
  funext i
  have e : (Rect.unit (s := S2x512x768) ![0, 0, 0] S2x512x768.size inb_S2x512x768_S2x512x768_0_0_0).emb i = i :=
    Shape.idx3_ext (by show 0 + 1 * (i 0).val = _; omega) (by show 0 + 1 * (i 1).val = _; omega) (by show 0 + 1 * (i 2).val = _; omega)
  have := key i
  rwa [e] at this

/-- The buffer of the partial product, holding anything. -/
def partAny : sProp 𝕄 := iprop(∃ f : Buf (Elt F) ((c : Thread nD τ).loc cc0_scratch0), ((c : Thread nD τ).loc cc0_scratch0) ↦{fullShare} f)

theorem step_part (f : Buf (Elt F) ((c : Thread nD τ).loc cc0_scratch0)) (w : Vec F S2x512x768 .f32)
    {hx : ((Memref.whole cc0_scratch0 : Memref sig .tc .vmem S2x512x768 .f32).access (Rect.unit (s := S2x512x768) ![0, 0, 0] S2x512x768.size inb_S2x512x768_S2x512x768_0_0_0)).Stores Finset.univ}
    {hm : (Finset.univ : Finset (Rect.unit (s := S2x512x768) ![0, 0, 0] S2x512x768.size inb_S2x512x768_S2x512x768_0_0_0).shape.Idx) = Finset.univ
      ∨ ∀ a, (Rect.unit (s := S2x512x768) ![0, 0, 0] S2x512x768.size inb_S2x512x768_S2x512x768_0_0_0).stride a = 1}
    {α : Type} {Q : α → sProp 𝕄} {k : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} (w : (cc0_scratch0 : Ref sig .tc).ty.Contents (Elt F))) -∗ WP c (k ⟨⟩) Q)
      -∗ WP c (.op (.store (Memref.whole cc0_scratch0) (Rect.unit (s := S2x512x768) ![0, 0, 0] S2x512x768.size inb_S2x512x768_S2x512x768_0_0_0) w Finset.univ hx hm) k) Q) := by
  have h := wp_store (defs := defs₀ (F := F)) (Γ := .empty) 𝒱₀ (c : Thread nD τ) none Set.univ (m := (Memref.whole cc0_scratch0 : Memref sig .tc .vmem S2x512x768 .f32)) (hx := hx) (hm := hm) (k := k) (Q := Q)
    (Mk := Finset.univ) (w := w) (S := Finset.univ) (f := f) (Finset.subset_univ _)
  rw [write_part] at h
  exact h

theorem part9 (w : BitVec 32) {Q : PUnit → sProp 𝕄} :
    partAny (F := F) c ⊢ iprop(stA (F := F) c false 0 -∗ (partOwn m ρ c -∗ stS m ρ c false 0 -∗ Q ⟨⟩)
      -∗ WP c (atArgs (k0_part9 (F := F)) c w (projAt m ρ c)) Q) := by
  simp only [atArgs, k0_part9_eq_skeleton]; unfold k0_part9_skel
  simp only [Prog.lift, Prog.bind_op, Prog.bind_ret, Prog.pure_eq_ret, Prog.bind_assoc]
  unfold partAny
  iintro ⟨%f, Hp⟩ S0 Hk
  iapply (wp_load 𝒱₀ (c : Thread nD τ) none Set.univ (m := (Memref.whole cc0_scratch0 : Memref sig .tc .vmem S2x512x768 .f32)) (Finset.subset_univ _)) $$ Hp; iintro Hp
  iapply (step_part c f (part m ρ c)) $$ Hp; iintro Hp
  iapply (step_chunk m ρ c (hop false c 0) false (off3_eq c)) $$ Hp; iintro Hp
  iapply (step_peek c (stM false) 0) $$ S0; iintro %_ S0
  iapply (step_put c (stM false) 0 (sent m ρ false (0 : Fin 6).val c) rfl) $$ S0; iintro S0
  iapply (done c)
  iapply Hk $$ Hp S0

end Cert.KernelIdeal.Ring
-- ==== Proof.KernelIdeal.Parts2.lean ====
/-
The ring's parts of the body, one by one: what each needs of the slots and transfers, and what it leaves.
-/
module

public import proofs.«01_k».proof.Proof.KernelIdeal.Ops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

theorem part10 (v13 v24 : BitVec 32) {Q : PUnit → sProp 𝕄} :
    env m ρ K ⊢ iprop(partOwn m ρ c -∗ stS m ρ c false 0 -∗ stA (F := F) c true 0 -∗ ready (F := F) false 0 c -∗ ready (F := F) true 0 c -∗ rvA (F := F) c false 0 -∗ rvA (F := F) c true 0 -∗ owing (F := F) c 0 -∗
      (partOwn m ρ c -∗ flying (F := F) false 0 c -∗ flying (F := F) true 0 c -∗ owing (F := F) c 2 -∗ Q ⟨⟩)
      -∗ WP c (atArgs (k0_part10 (F := F)) c v13 v24) Q) := by
  simp only [atArgs, k0_part10_eq_skeleton]; unfold k0_part10_skel
  simp only [Prog.lift, Prog.bind_op, Prog.bind_ret, Prog.pure_eq_ret, Prog.bind_assoc]
  unfold env
  iintro ⟨#HR, #HL⟩ Hp S0 S1 T0 T1 L0 L1 HO Hk
  iapply (step_chunk m ρ c (hop true c 0) true (off4_eq c)) $$ Hp; iintro Hp
  iapply (step_peek c (stM true) 0) $$ S1; iintro %_ S1
  iapply (step_put c (stM true) 0 (sent m ρ true (0 : Fin 6).val c) rfl) $$ S1; iintro S1
  iapply (step_send m ρ K c false 0 0 rfl _ (dev3_eq c)) $$ HR T0 S0 L0 HO; iintro ⟨T0, HO⟩
  iapply (step_send m ρ K c true 0 1 rfl _ (dev4_eq c)) $$ HR T1 S1 L1 HO; iintro ⟨T1, HO⟩
  iapply (done c)
  iapply Hk $$ Hp T0 T1 HO

theorem part11 (v13 v24 : BitVec 32) {Q : (Σ' (_ : BitVec 32), BitVec 32) → sProp 𝕄} :
    env m ρ K ⊢ iprop(flying (F := F) false 0 c -∗ flying (F := F) true 0 c -∗ owing (F := F) c 2 -∗
      (∀ a b, over (F := F) false 0 c -∗ stS m ρ c false 0 -∗ rvS m ρ c false 0 -∗ gone (F := F) true 0 c -∗ stS m ρ c true 0 -∗ owing (F := F) c 2 -∗ Q ⟨a, b⟩)
      -∗ WP c (atArgs (k0_part11 (F := F)) v13 v24) Q) := by
  simp only [atArgs, k0_part11_eq_skeleton]; unfold k0_part11_skel
  simp only [Prog.lift, Prog.bind_op, Prog.bind_ret, Prog.pure_eq_ret, Prog.bind_assoc]
  unfold env
  iintro ⟨#HR, #HL⟩ T0 T1 HO Hk
  iapply (step_gone m ρ K c false 0 2 (by decide)) $$ HR HL T0 HO; iintro ⟨T0, S0, HO⟩
  iapply (step_over m ρ K c false 0 2 (by decide)) $$ HR HL T0 HO; iintro ⟨T0, R0, HO⟩
  iapply (step_gone m ρ K c true 0 2 (by decide)) $$ HR HL T1 HO; iintro ⟨T1, S1, HO⟩
  iapply (done c)
  iapply Hk $$ %_ %_ T0 S0 R0 T1 S1 HO

theorem part12 (v2 w w' : BitVec 32) {Q : (Σ' (_ : FVec F S2x128x384 .f32) (_ : FVec F S2x128x384 .f32) (_ : BitVec 32), BitVec 32) → sProp 𝕄} :
    env m ρ K ⊢ iprop(gone (F := F) true 0 c -∗ owing (F := F) c 2 -∗ rvS m ρ c false 0 -∗ partOwn m ρ c -∗
      (∀ a b, over (F := F) true 0 c -∗ rvS m ρ c true 0 -∗ rvS m ρ c false 0 -∗ partOwn m ρ c -∗ owing (F := F) c 2 -∗ Q ⟨(accum (sent m ρ false (0 : Fin 6).val (src false c)) (chunkAt m ρ c (hop false c 1) false)), (fromWire (sent m ρ true (0 : Fin 6).val (src true c))), a, b⟩)
      -∗ WP c (atArgs (k0_part12 (F := F)) c v2 w w') Q) := by
  simp only [atArgs, k0_part12_eq_skeleton]; unfold k0_part12_skel
  simp only [Prog.lift, Prog.bind_op, Prog.bind_ret, Prog.pure_eq_ret, Prog.bind_assoc]
  unfold env
  iintro ⟨#HR, #HL⟩ T1 HO R0 Hp Hk
  iapply (step_over m ρ K c true 0 2 (by decide)) $$ HR HL T1 HO; iintro ⟨T1, R1, HO⟩
  iapply (step_load c (rvM false) 0 _) $$ R0; iintro R0
  iapply (step_chunk m ρ c (hop false c 1) false (off5_eq c 0)) $$ Hp; iintro Hp
  iapply (step_load c (rvM true) 0 _) $$ R1; iintro R1
  iapply (done c)
  iapply Hk $$ %_ %_ T1 R1 R0 Hp HO

theorem part13 (v24 w w' : BitVec 32) {Q : PUnit → sProp 𝕄} :
    partOwn m ρ c ⊢ iprop(stA (F := F) c false 1 -∗ stA (F := F) c true 1 -∗
      (partOwn m ρ c -∗ stS m ρ c false 1 -∗ stS m ρ c true 1 -∗ Q ⟨⟩)
      -∗ WP c (atArgs (k0_part13 (F := F)) c v24 (accum (sent m ρ false (0 : Fin 6).val (src false c)) (chunkAt m ρ c (hop false c 1) false)) (fromWire (sent m ρ true (0 : Fin 6).val (src true c))) w w') Q) := by
  simp only [atArgs, k0_part13_eq_skeleton]; unfold k0_part13_skel
  simp only [Prog.lift, Prog.bind_op, Prog.bind_ret, Prog.pure_eq_ret, Prog.bind_assoc]
  iintro Hp S0 S1 Hk
  iapply (step_chunk m ρ c (hop true c 1) true (off6_eq c 0)) $$ Hp; iintro Hp
  iapply (step_peek c (stM false) 1) $$ S0; iintro %_ S0
  iapply (step_put c (stM false) 1 (sent m ρ false (1 : Fin 6).val c) rfl) $$ S0; iintro S0
  iapply (step_peek c (stM true) 1) $$ S1; iintro %_ S1
  iapply (step_put c (stM true) 1 (sent m ρ true (1 : Fin 6).val c) rfl) $$ S1; iintro S1
  iapply (done c)
  iapply Hk $$ Hp S0 S1

theorem part14 (v13 v24 : BitVec 32) {Q : PUnit → sProp 𝕄} :
    env m ρ K ⊢ iprop(stS m ρ c false 1 -∗ stS m ρ c true 1 -∗ ready (F := F) false 1 c -∗ ready (F := F) true 1 c -∗ rvA (F := F) c false 1 -∗ rvA (F := F) c true 1 -∗ owing (F := F) c 2 -∗
      (gone (F := F) false 1 c -∗ stS m ρ c false 1 -∗ flying (F := F) true 1 c -∗ owing (F := F) c 4 -∗ Q ⟨⟩)
      -∗ WP c (atArgs (k0_part14 (F := F)) c v13 v24) Q) := by
  simp only [atArgs, k0_part14_eq_skeleton]; unfold k0_part14_skel
  simp only [Prog.lift, Prog.bind_op, Prog.bind_ret, Prog.pure_eq_ret, Prog.bind_assoc]
  unfold env
  iintro ⟨#HR, #HL⟩ S0 S1 T0 T1 L0 L1 HO Hk
  iapply (step_send m ρ K c false 1 2 rfl _ (dev5_eq c)) $$ HR T0 S0 L0 HO; iintro ⟨T0, HO⟩
  iapply (step_send m ρ K c true 1 3 rfl _ (dev6_eq c)) $$ HR T1 S1 L1 HO; iintro ⟨T1, HO⟩
  iapply (step_gone m ρ K c false 1 4 (by decide)) $$ HR HL T0 HO; iintro ⟨T0, S0, HO⟩
  iapply (done c)
  iapply Hk $$ T0 S0 T1 HO

theorem part15 (v2 v13 : BitVec 32) {Q : (Σ' (_ : FVec F S2x128x384 .f32) (_ : BitVec 32), BitVec 32) → sProp 𝕄} :
    env m ρ K ⊢ iprop(gone (F := F) false 1 c -∗ flying (F := F) true 1 c -∗ owing (F := F) c 4 -∗
      (∀ a b, over (F := F) false 1 c -∗ rvS m ρ c false 1 -∗ over (F := F) true 1 c -∗ stS m ρ c true 1 -∗ rvS m ρ c true 1 -∗ owing (F := F) c 4 -∗ Q ⟨(fromWire (sent m ρ false (1 : Fin 6).val (src false c))), a, b⟩)
      -∗ WP c (atArgs (k0_part15 (F := F)) v2 v13) Q) := by
  simp only [atArgs, k0_part15_eq_skeleton]; unfold k0_part15_skel
  simp only [Prog.lift, Prog.bind_op, Prog.bind_ret, Prog.pure_eq_ret, Prog.bind_assoc]
  unfold env
  iintro ⟨#HR, #HL⟩ T0 T1 HO Hk
  iapply (step_over m ρ K c false 1 4 (by decide)) $$ HR HL T0 HO; iintro ⟨T0, R0, HO⟩
  iapply (step_gone m ρ K c true 1 4 (by decide)) $$ HR HL T1 HO; iintro ⟨T1, S1, HO⟩
  iapply (step_over m ρ K c true 1 4 (by decide)) $$ HR HL T1 HO; iintro ⟨T1, R1, HO⟩
  iapply (step_load c (rvM false) 1 _) $$ R0; iintro R0
  rw [pay33_eq]
  iapply (done c)
  iapply Hk $$ %_ %_ T0 R0 T1 S1 R1 HO

theorem part16 (v2 w w' : BitVec 32) {Q : (Σ' (_ : FVec F S2x128x384 .f32), FVec F S1x2x128x384 .bf16) → sProp 𝕄} :
    partOwn m ρ c ⊢ iprop(rvS m ρ c true 1 -∗ stA (F := F) c false 2 -∗
      (partOwn m ρ c -∗ rvS m ρ c true 1 -∗ stA (F := F) c false 2 -∗ Q ⟨(accum (sent m ρ true (1 : Fin 6).val (src true c)) (chunkAt m ρ c (hop true c 2) true)), sent m ρ false (2 : Fin 6).val c⟩)
      -∗ WP c (atArgs (k0_part16 (F := F)) c v2 (fromWire (sent m ρ false (1 : Fin 6).val (src false c))) w w') Q) := by
  simp only [atArgs, k0_part16_eq_skeleton]; unfold k0_part16_skel
  simp only [Prog.lift, Prog.bind_op, Prog.bind_ret, Prog.pure_eq_ret, Prog.bind_assoc]
  iintro Hp R1 S0 Hk
  iapply (step_chunk m ρ c (hop false c 2) false (off5_eq c 1)) $$ Hp; iintro Hp
  iapply (step_load c (rvM true) 1 _) $$ R1; iintro R1
  iapply (step_chunk m ρ c (hop true c 2) true (off6_eq c 1)) $$ Hp; iintro Hp
  iapply (step_peek c (stM false) 2) $$ S0; iintro %_ S0
  rw [pay34_eq, pay35_eq]
  iapply (done c)
  iapply Hk $$ Hp R1 S0

theorem part17 (v13 v24 : BitVec 32) {Q : PUnit → sProp 𝕄} :
    env m ρ K ⊢ iprop(stA (F := F) c false 2 -∗ stA (F := F) c true 2 -∗ ready (F := F) false 2 c -∗ ready (F := F) true 2 c -∗ rvA (F := F) c false 2 -∗ rvA (F := F) c true 2 -∗ owing (F := F) c 4 -∗
      (flying (F := F) false 2 c -∗ flying (F := F) true 2 c -∗ owing (F := F) c 6 -∗ Q ⟨⟩)
      -∗ WP c (atArgs (k0_part17 (F := F)) c v13 v24 (accum (sent m ρ true (1 : Fin 6).val (src true c)) (chunkAt m ρ c (hop true c 2) true)) (sent m ρ false (2 : Fin 6).val c)) Q) := by
  simp only [atArgs, k0_part17_eq_skeleton]; unfold k0_part17_skel
  simp only [Prog.lift, Prog.bind_op, Prog.bind_ret, Prog.pure_eq_ret, Prog.bind_assoc]
  unfold env
  iintro ⟨#HR, #HL⟩ S0 S1 T0 T1 L0 L1 HO Hk
  iapply (step_put c (stM false) 2 (sent m ρ false (2 : Fin 6).val c) rfl) $$ S0; iintro S0
  iapply (step_peek c (stM true) 2) $$ S1; iintro %_ S1
  iapply (step_put c (stM true) 2 (sent m ρ true (2 : Fin 6).val c) rfl) $$ S1; iintro S1
  iapply (step_send m ρ K c false 2 4 rfl _ (dev7_eq c)) $$ HR T0 S0 L0 HO; iintro ⟨T0, HO⟩
  iapply (step_send m ρ K c true 2 5 rfl _ (dev8_eq c)) $$ HR T1 S1 L1 HO; iintro ⟨T1, HO⟩
  iapply (done c)
  iapply Hk $$ T0 T1 HO

theorem part18 (v13 v24 : BitVec 32) {Q : (Σ' (_ : BitVec 32), BitVec 32) → sProp 𝕄} :
    env m ρ K ⊢ iprop(flying (F := F) false 2 c -∗ flying (F := F) true 2 c -∗ owing (F := F) c 6 -∗
      (∀ a b, over (F := F) false 2 c -∗ stS m ρ c false 2 -∗ rvS m ρ c false 2 -∗ gone (F := F) true 2 c -∗ stS m ρ c true 2 -∗ owing (F := F) c 6 -∗ Q ⟨a, b⟩)
      -∗ WP c (atArgs (k0_part18 (F := F)) v13 v24) Q) := by
  simp only [atArgs, k0_part18_eq_skeleton]; unfold k0_part18_skel
  simp only [Prog.lift, Prog.bind_op, Prog.bind_ret, Prog.pure_eq_ret, Prog.bind_assoc]
  unfold env
  iintro ⟨#HR, #HL⟩ T0 T1 HO Hk
  iapply (step_gone m ρ K c false 2 6 (by decide)) $$ HR HL T0 HO; iintro ⟨T0, S0, HO⟩
  iapply (step_over m ρ K c false 2 6 (by decide)) $$ HR HL T0 HO; iintro ⟨T0, R0, HO⟩
  iapply (step_gone m ρ K c true 2 6 (by decide)) $$ HR HL T1 HO; iintro ⟨T1, S1, HO⟩
  iapply (done c)
  iapply Hk $$ %_ %_ T0 S0 R0 T1 S1 HO

theorem part19 (v2 w w' : BitVec 32) {Q : (Σ' (_ : FVec F S2x128x384 .f32) (_ : FVec F S2x128x384 .f32) (_ : BitVec 32), BitVec 32) → sProp 𝕄} :
    env m ρ K ⊢ iprop(gone (F := F) true 2 c -∗ owing (F := F) c 6 -∗ rvS m ρ c false 2 -∗ partOwn m ρ c -∗
      (∀ a b, over (F := F) true 2 c -∗ rvS m ρ c true 2 -∗ rvS m ρ c false 2 -∗ partOwn m ρ c -∗ owing (F := F) c 6 -∗ Q ⟨(accum (sent m ρ false (2 : Fin 6).val (src false c)) (chunkAt m ρ c (hop false c 3) false)), (fromWire (sent m ρ true (2 : Fin 6).val (src true c))), a, b⟩)
      -∗ WP c (atArgs (k0_part19 (F := F)) c v2 w w') Q) := by
  simp only [atArgs, k0_part19_eq_skeleton]; unfold k0_part19_skel
  simp only [Prog.lift, Prog.bind_op, Prog.bind_ret, Prog.pure_eq_ret, Prog.bind_assoc]
  unfold env
  iintro ⟨#HR, #HL⟩ T1 HO R0 Hp Hk
  iapply (step_over m ρ K c true 2 6 (by decide)) $$ HR HL T1 HO; iintro ⟨T1, R1, HO⟩
  iapply (step_load c (rvM false) 2 _) $$ R0; iintro R0
  iapply (step_chunk m ρ c (hop false c 3) false (off5_eq c 2)) $$ Hp; iintro Hp
  iapply (step_load c (rvM true) 2 _) $$ R1; iintro R1
  rw [pay37_eq, pay38_eq]
  iapply (done c)
  iapply Hk $$ %_ %_ T1 R1 R0 Hp HO

theorem part20 (v2 w w' : BitVec 32) {Q : (Σ' (_ : FVec F S2x128x384 .f32) (_ : BitVec 32) (_ : BitVec 32) (_ : BitVec 1) (_ : BitVec 1), BitVec 32) → sProp 𝕄} :
    partOwn m ρ c ⊢ iprop(outOwn m ρ c ∅ -∗
      (∀ a b e f g, partOwn m ρ c -∗ outOwn m ρ c (insert (hop false c (3 : Fin 4).val, false) ∅) -∗ Q ⟨(accum (sent m ρ true (2 : Fin 6).val (src true c)) (chunkAt m ρ c (hop true c 3) true)), a, b, e, f, g⟩)
      -∗ WP c (atArgs (k0_part20 (F := F)) c v2 (accum (sent m ρ false (2 : Fin 6).val (src false c)) (chunkAt m ρ c (hop false c 3) false)) (fromWire (sent m ρ true (2 : Fin 6).val (src true c))) w w') Q) := by
  simp only [atArgs, k0_part20_eq_skeleton]; unfold k0_part20_skel
  simp only [Prog.lift, Prog.bind_op, Prog.bind_ret, Prog.pure_eq_ret, Prog.bind_assoc]
  iintro Hp HY Hk
  iapply (step_chunk m ρ c (hop true c 3) true (off6_eq c 2)) $$ Hp; iintro Hp
  iapply (step_outload m ρ c ∅) $$ HY; iintro %_ HY
  iapply (step_out m ρ c ∅ false 3 rfl (off7_eq c)) $$ HY; iintro HY
  rw [pay39_eq]
  iapply (done c)
  iapply Hk $$ %_ %_ %_ %_ %_ Hp HY

theorem part21 (v13 v24 w1 w2 w5 : BitVec 32) (b1 b2 : BitVec 1) {Q : (Σ' (_ : BitVec 32), BitVec 32) → sProp 𝕄} :
    env m ρ K ⊢ iprop(outOwn m ρ c (insert (hop false c (3 : Fin 4).val, false) ∅) -∗ stA (F := F) c false 3 -∗ stA (F := F) c true 3 -∗ ready (F := F) false 3 c -∗ rvA (F := F) c false 3 -∗ owing (F := F) c 6 -∗
      (∀ a b, outOwn m ρ c (insert (hop true c (3 : Fin 4).val, true) (insert (hop false c (3 : Fin 4).val, false) ∅)) -∗ stS m ρ c true 3 -∗ flying (F := F) false 3 c -∗ owing (F := F) c 7 -∗ Q ⟨a, b⟩)
      -∗ WP c (atArgs (k0_part21 (F := F)) c v13 v24 (accum (sent m ρ false (2 : Fin 6).val (src false c)) (chunkAt m ρ c (hop false c 3) false)) (accum (sent m ρ true (2 : Fin 6).val (src true c)) (chunkAt m ρ c (hop true c 3) true)) w1 w2 b1 b2 w5) Q) := by
  simp only [atArgs, k0_part21_eq_skeleton]; unfold k0_part21_skel
  simp only [Prog.lift, Prog.bind_op, Prog.bind_ret, Prog.pure_eq_ret, Prog.bind_assoc]
  unfold env
  iintro ⟨#HR, #HL⟩ HY S0 S1 T0 L0 HO Hk
  iapply (step_outload m ρ c (insert (hop false c (3 : Fin 4).val, false) ∅)) $$ HY; iintro %_ HY
  iapply (step_out m ρ c (insert (hop false c (3 : Fin 4).val, false) ∅) true 3 rfl (off8_eq c)) $$ HY; iintro HY
  iapply (step_peek c (stM false) 3) $$ S0; iintro %_ S0
  iapply (step_put c (stM false) 3 (sent m ρ false (3 : Fin 6).val c) rfl) $$ S0; iintro S0
  iapply (step_peek c (stM true) 3) $$ S1; iintro %_ S1
  iapply (step_put c (stM true) 3 (sent m ρ true (3 : Fin 6).val c) rfl) $$ S1; iintro S1
  iapply (step_send m ρ K c false 3 6 rfl _ (dev9_eq c)) $$ HR T0 S0 L0 HO; iintro ⟨T0, HO⟩
  iapply (done c)
  iapply Hk $$ %_ %_ HY S1 T0 HO

theorem part22 (v24 w w' : BitVec 32) {Q : PUnit → sProp 𝕄} :
    env m ρ K ⊢ iprop(stS m ρ c true 3 -∗ flying (F := F) false 3 c -∗ ready (F := F) true 3 c -∗ rvA (F := F) c true 3 -∗ owing (F := F) c 7 -∗
      (over (F := F) false 3 c -∗ stS m ρ c false 3 -∗ rvS m ρ c false 3 -∗ flying (F := F) true 3 c -∗ owing (F := F) c 8 -∗ Q ⟨⟩)
      -∗ WP c (atArgs (k0_part22 (F := F)) c v24 w w') Q) := by
  simp only [atArgs, k0_part22_eq_skeleton]; unfold k0_part22_skel
  simp only [Prog.lift, Prog.bind_op, Prog.bind_ret, Prog.pure_eq_ret, Prog.bind_assoc]
  unfold env
  iintro ⟨#HR, #HL⟩ S1 T0 T1 L1 HO Hk
  iapply (step_send m ρ K c true 3 7 rfl _ (dev10_eq c)) $$ HR T1 S1 L1 HO; iintro ⟨T1, HO⟩
  iapply (step_gone m ρ K c false 3 8 (by decide)) $$ HR HL T0 HO; iintro ⟨T0, S0, HO⟩
  iapply (step_over m ρ K c false 3 8 (by decide)) $$ HR HL T0 HO; iintro ⟨T0, R0, HO⟩
  iapply (done c)
  iapply Hk $$ T0 S0 R0 T1 HO

theorem part23 (v2 v13 : BitVec 32) {Q : (Σ' (_ : FVec F S2x128x384 .f32) (_ : BitVec 32), BitVec 32) → sProp 𝕄} :
    env m ρ K ⊢ iprop(flying (F := F) true 3 c -∗ rvS m ρ c false 3 -∗ owing (F := F) c 8 -∗
      (∀ a b, over (F := F) true 3 c -∗ stS m ρ c true 3 -∗ rvS m ρ c true 3 -∗ rvS m ρ c false 3 -∗ owing (F := F) c 8 -∗ Q ⟨(fromWire (sent m ρ false (3 : Fin 6).val (src false c))), a, b⟩)
      -∗ WP c (atArgs (k0_part23 (F := F)) v2 v13) Q) := by
  simp only [atArgs, k0_part23_eq_skeleton]; unfold k0_part23_skel
  simp only [Prog.lift, Prog.bind_op, Prog.bind_ret, Prog.pure_eq_ret, Prog.bind_assoc]
  unfold env
  iintro ⟨#HR, #HL⟩ T1 R0 HO Hk
  iapply (step_gone m ρ K c true 3 8 (by decide)) $$ HR HL T1 HO; iintro ⟨T1, S1, HO⟩
  iapply (step_over m ρ K c true 3 8 (by decide)) $$ HR HL T1 HO; iintro ⟨T1, R1, HO⟩
  iapply (step_load c (rvM false) 3 _) $$ R0; iintro R0
  rw [pay42_eq]
  iapply (done c)
  iapply Hk $$ %_ %_ T1 S1 R1 R0 HO

theorem part24 (v2 w w' : BitVec 32) {Q : FVec F S2x128x384 .bf16 → sProp 𝕄} :
    outOwn m ρ c (insert (hop true c (3 : Fin 4).val, true) (insert (hop false c (3 : Fin 4).val, false) ∅)) ⊢ iprop(rvS m ρ c false 3 -∗ rvS m ρ c true 3 -∗ stA (F := F) c false 4 -∗
      (outOwn m ρ c (insert (hop true c (0 : Fin 4).val, true) (insert (hop false c (0 : Fin 4).val, false) (insert (hop true c (3 : Fin 4).val, true) (insert (hop false c (3 : Fin 4).val, false) ∅)))) -∗ rvS m ρ c false 3 -∗ rvS m ρ c true 3 -∗ stS m ρ c false 4 -∗ Q (k0_pay45 (sent m ρ true (3 : Fin 6).val (src true c))))
      -∗ WP c (atArgs (k0_part24 (F := F)) c v2 (fromWire (sent m ρ false (3 : Fin 6).val (src false c))) w w') Q) := by
  simp only [atArgs, k0_part24_eq_skeleton]; unfold k0_part24_skel
  simp only [Prog.lift, Prog.bind_op, Prog.bind_ret, Prog.pure_eq_ret, Prog.bind_assoc]
  iintro HY R0 R1 S0 Hk
  iapply (step_outload m ρ c (insert (hop true c (3 : Fin 4).val, true) (insert (hop false c (3 : Fin 4).val, false) ∅))) $$ HY; iintro %_ HY
  iapply (step_out m ρ c (insert (hop true c (3 : Fin 4).val, true) (insert (hop false c (3 : Fin 4).val, false) ∅)) false 0 rfl (off9_eq c 0)) $$ HY; iintro HY
  iapply (step_load c (rvM true) 3 _) $$ R1; iintro R1
  iapply (step_outload m ρ c (insert (hop false c (0 : Fin 4).val, false) (insert (hop true c (3 : Fin 4).val, true) (insert (hop false c (3 : Fin 4).val, false) ∅)))) $$ HY; iintro %_ HY
  iapply (step_out m ρ c (insert (hop false c (0 : Fin 4).val, false) (insert (hop true c (3 : Fin 4).val, true) (insert (hop false c (3 : Fin 4).val, false) ∅))) true 0 rfl (off10_eq c 0)) $$ HY; iintro HY
  iapply (step_load c (rvM false) 3 _) $$ R0; iintro R0
  iapply (step_peek c (stM false) 4) $$ S0; iintro %_ S0
  iapply (step_put c (stM false) 4 (sent m ρ false (4 : Fin 6).val c) (sent_fwd m ρ c false 3 (by decide))) $$ S0; iintro S0
  iapply (step_load c (rvM true) 3 _) $$ R1; iintro R1
  iapply (done c)
  iapply Hk $$ HY R0 R1 S0

theorem part25 (v13 v24 : BitVec 32) {Q : PUnit → sProp 𝕄} :
    env m ρ K ⊢ iprop(stS m ρ c false 4 -∗ stA (F := F) c true 4 -∗ ready (F := F) false 4 c -∗ ready (F := F) true 4 c -∗ rvA (F := F) c false 4 -∗ rvA (F := F) c true 4 -∗ owing (F := F) c 8 -∗
      (flying (F := F) false 4 c -∗ flying (F := F) true 4 c -∗ owing (F := F) c 10 -∗ Q ⟨⟩)
      -∗ WP c (atArgs (k0_part25 (F := F)) c v13 v24 (k0_pay45 (sent m ρ true (3 : Fin 6).val (src true c)))) Q) := by
  simp only [atArgs, k0_part25_eq_skeleton]; unfold k0_part25_skel
  simp only [Prog.lift, Prog.bind_op, Prog.bind_ret, Prog.pure_eq_ret, Prog.bind_assoc]
  unfold env
  iintro ⟨#HR, #HL⟩ S0 S1 T0 T1 L0 L1 HO Hk
  iapply (step_peek c (stM true) 4) $$ S1; iintro %_ S1
  iapply (step_put c (stM true) 4 (sent m ρ true (4 : Fin 6).val c) (sent_fwd m ρ c true 3 (by decide))) $$ S1; iintro S1
  iapply (step_send m ρ K c false 4 8 rfl _ (dev11_eq c)) $$ HR T0 S0 L0 HO; iintro ⟨T0, HO⟩
  iapply (step_send m ρ K c true 4 9 rfl _ (dev12_eq c)) $$ HR T1 S1 L1 HO; iintro ⟨T1, HO⟩
  iapply (done c)
  iapply Hk $$ T0 T1 HO

theorem part26 (v13 v24 : BitVec 32) {Q : PUnit → sProp 𝕄} :
    env m ρ K ⊢ iprop(flying (F := F) false 4 c -∗ flying (F := F) true 4 c -∗ owing (F := F) c 10 -∗
      (over (F := F) false 4 c -∗ stS m ρ c false 4 -∗ rvS m ρ c false 4 -∗ gone (F := F) true 4 c -∗ stS m ρ c true 4 -∗ owing (F := F) c 10 -∗ Q ⟨⟩)
      -∗ WP c (atArgs (k0_part26 (F := F)) v13 v24) Q) := by
  simp only [atArgs, k0_part26_eq_skeleton]; unfold k0_part26_skel
  simp only [Prog.lift, Prog.bind_op, Prog.bind_ret, Prog.pure_eq_ret, Prog.bind_assoc]
  unfold env
  iintro ⟨#HR, #HL⟩ T0 T1 HO Hk
  iapply (step_gone m ρ K c false 4 10 (by decide)) $$ HR HL T0 HO; iintro ⟨T0, S0, HO⟩
  iapply (step_over m ρ K c false 4 10 (by decide)) $$ HR HL T0 HO; iintro ⟨T0, R0, HO⟩
  iapply (step_gone m ρ K c true 4 10 (by decide)) $$ HR HL T1 HO; iintro ⟨T1, S1, HO⟩
  iapply (done c)
  iapply Hk $$ T0 S0 R0 T1 S1 HO

theorem part27 (v2 : BitVec 32) {Q : (Σ' (_ : FVec F S2x128x384 .f32) (_ : BitVec 32) (_ : BitVec 32) (_ : BitVec 1), BitVec 32) → sProp 𝕄} :
    env m ρ K ⊢ iprop(gone (F := F) true 4 c -∗ owing (F := F) c 10 -∗ rvS m ρ c false 4 -∗ outOwn m ρ c (insert (hop true c (0 : Fin 4).val, true) (insert (hop false c (0 : Fin 4).val, false) (insert (hop true c (3 : Fin 4).val, true) (insert (hop false c (3 : Fin 4).val, false) ∅)))) -∗
      (∀ a b e f, over (F := F) true 4 c -∗ rvS m ρ c true 4 -∗ rvS m ρ c false 4 -∗ outOwn m ρ c (insert (hop false c (1 : Fin 4).val, false) (insert (hop true c (0 : Fin 4).val, true) (insert (hop false c (0 : Fin 4).val, false) (insert (hop true c (3 : Fin 4).val, true) (insert (hop false c (3 : Fin 4).val, false) ∅))))) -∗ owing (F := F) c 10 -∗ Q ⟨(fromWire (sent m ρ true (4 : Fin 6).val (src true c))), a, b, e, f⟩)
      -∗ WP c (atArgs (k0_part27 (F := F)) c v2) Q) := by
  simp only [atArgs, k0_part27_eq_skeleton]; unfold k0_part27_skel
  simp only [Prog.lift, Prog.bind_op, Prog.bind_ret, Prog.pure_eq_ret, Prog.bind_assoc]
  unfold env
  iintro ⟨#HR, #HL⟩ T1 HO R0 HY Hk
  iapply (step_over m ρ K c true 4 10 (by decide)) $$ HR HL T1 HO; iintro ⟨T1, R1, HO⟩
  iapply (step_load c (rvM false) 4 _) $$ R0; iintro R0
  iapply (step_outload m ρ c (insert (hop true c (0 : Fin 4).val, true) (insert (hop false c (0 : Fin 4).val, false) (insert (hop true c (3 : Fin 4).val, true) (insert (hop false c (3 : Fin 4).val, false) ∅))))) $$ HY; iintro %_ HY
  iapply (step_out m ρ c (insert (hop true c (0 : Fin 4).val, true) (insert (hop false c (0 : Fin 4).val, false) (insert (hop true c (3 : Fin 4).val, true) (insert (hop false c (3 : Fin 4).val, false) ∅)))) false 1 rfl (off9_eq c 1)) $$ HY; iintro HY
  iapply (step_load c (rvM true) 4 _) $$ R1; iintro R1
  rw [pay48_eq]
  iapply (done c)
  iapply Hk $$ %_ %_ %_ %_ T1 R1 R0 HY HO

theorem part28 (v24 w1 w2 w4 : BitVec 32) (b1 : BitVec 1) {Q : PUnit → sProp 𝕄} :
    outOwn m ρ c (insert (hop false c (1 : Fin 4).val, false) (insert (hop true c (0 : Fin 4).val, true) (insert (hop false c (0 : Fin 4).val, false) (insert (hop true c (3 : Fin 4).val, true) (insert (hop false c (3 : Fin 4).val, false) ∅))))) ⊢ iprop(rvS m ρ c false 4 -∗ rvS m ρ c true 4 -∗ stA (F := F) c false 5 -∗ stA (F := F) c true 5 -∗
      (outOwn m ρ c (insert (hop true c (1 : Fin 4).val, true) (insert (hop false c (1 : Fin 4).val, false) (insert (hop true c (0 : Fin 4).val, true) (insert (hop false c (0 : Fin 4).val, false) (insert (hop true c (3 : Fin 4).val, true) (insert (hop false c (3 : Fin 4).val, false) ∅)))))) -∗ rvS m ρ c false 4 -∗ rvS m ρ c true 4 -∗ stS m ρ c false 5 -∗ stS m ρ c true 5 -∗ Q ⟨⟩)
      -∗ WP c (atArgs (k0_part28 (F := F)) c v24 (fromWire (sent m ρ true (4 : Fin 6).val (src true c))) w1 w2 b1 w4) Q) := by
  simp only [atArgs, k0_part28_eq_skeleton]; unfold k0_part28_skel
  simp only [Prog.lift, Prog.bind_op, Prog.bind_ret, Prog.pure_eq_ret, Prog.bind_assoc]
  iintro HY R0 R1 S0 S1 Hk
  iapply (step_outload m ρ c (insert (hop false c (1 : Fin 4).val, false) (insert (hop true c (0 : Fin 4).val, true) (insert (hop false c (0 : Fin 4).val, false) (insert (hop true c (3 : Fin 4).val, true) (insert (hop false c (3 : Fin 4).val, false) ∅)))))) $$ HY; iintro %_ HY
  iapply (step_out m ρ c (insert (hop false c (1 : Fin 4).val, false) (insert (hop true c (0 : Fin 4).val, true) (insert (hop false c (0 : Fin 4).val, false) (insert (hop true c (3 : Fin 4).val, true) (insert (hop false c (3 : Fin 4).val, false) ∅))))) true 1 rfl (off10_eq c 1)) $$ HY; iintro HY
  iapply (step_load c (rvM false) 4 _) $$ R0; iintro R0
  iapply (step_peek c (stM false) 5) $$ S0; iintro %_ S0
  iapply (step_put c (stM false) 5 (sent m ρ false (5 : Fin 6).val c) (sent_fwd m ρ c false 4 (by decide))) $$ S0; iintro S0
  iapply (step_load c (rvM true) 4 _) $$ R1; iintro R1
  iapply (step_peek c (stM true) 5) $$ S1; iintro %_ S1
  iapply (step_put c (stM true) 5 (sent m ρ true (5 : Fin 6).val c) (sent_fwd m ρ c true 4 (by decide))) $$ S1; iintro S1
  iapply (done c)
  iapply Hk $$ HY R0 R1 S0 S1

theorem part29 (v13 v24 : BitVec 32) {Q : PUnit → sProp 𝕄} :
    env m ρ K ⊢ iprop(stS m ρ c false 5 -∗ stS m ρ c true 5 -∗ ready (F := F) false 5 c -∗ ready (F := F) true 5 c -∗ rvA (F := F) c false 5 -∗ rvA (F := F) c true 5 -∗ owing (F := F) c 10 -∗
      (gone (F := F) false 5 c -∗ stS m ρ c false 5 -∗ flying (F := F) true 5 c -∗ owing (F := F) c 12 -∗ Q ⟨⟩)
      -∗ WP c (atArgs (k0_part29 (F := F)) c v13 v24) Q) := by
  simp only [atArgs, k0_part29_eq_skeleton]; unfold k0_part29_skel
  simp only [Prog.lift, Prog.bind_op, Prog.bind_ret, Prog.pure_eq_ret, Prog.bind_assoc]
  unfold env
  iintro ⟨#HR, #HL⟩ S0 S1 T0 T1 L0 L1 HO Hk
  iapply (step_send m ρ K c false 5 10 rfl _ (dev13_eq c)) $$ HR T0 S0 L0 HO; iintro ⟨T0, HO⟩
  iapply (step_send m ρ K c true 5 11 rfl _ (dev14_eq c)) $$ HR T1 S1 L1 HO; iintro ⟨T1, HO⟩
  iapply (step_gone m ρ K c false 5 12 (by decide)) $$ HR HL T0 HO; iintro ⟨T0, S0, HO⟩
  iapply (done c)
  iapply Hk $$ T0 S0 T1 HO

theorem part30 (v2 v13 : BitVec 32) {Q : (Σ' (_ : BitVec 32) (_ : FVec F S2x128x384 .f32), BitVec 32) → sProp 𝕄} :
    env m ρ K ⊢ iprop(gone (F := F) false 5 c -∗ flying (F := F) true 5 c -∗ owing (F := F) c 12 -∗
      (∀ a b, over (F := F) false 5 c -∗ rvS m ρ c false 5 -∗ over (F := F) true 5 c -∗ stS m ρ c true 5 -∗ rvS m ρ c true 5 -∗ owing (F := F) c 12 -∗ Q ⟨a, (fromWire (sent m ρ false (5 : Fin 6).val (src false c))), b⟩)
      -∗ WP c (atArgs (k0_part30 (F := F)) v2 v13) Q) := by
  simp only [atArgs, k0_part30_eq_skeleton]; unfold k0_part30_skel
  simp only [Prog.lift, Prog.bind_op, Prog.bind_ret, Prog.pure_eq_ret, Prog.bind_assoc]
  unfold env
  iintro ⟨#HR, #HL⟩ T0 T1 HO Hk
  iapply (step_over m ρ K c false 5 12 (by decide)) $$ HR HL T0 HO; iintro ⟨T0, R0, HO⟩
  iapply (step_gone m ρ K c true 5 12 (by decide)) $$ HR HL T1 HO; iintro ⟨T1, S1, HO⟩
  iapply (step_over m ρ K c true 5 12 (by decide)) $$ HR HL T1 HO; iintro ⟨T1, R1, HO⟩
  iapply (step_load c (rvM false) 5 _) $$ R0; iintro R0
  rw [pay51_eq]
  iapply (done c)
  iapply Hk $$ %_ %_ T0 R0 T1 S1 R1 HO

end Cert.KernelIdeal.Ring
-- ==== Proof.KernelIdeal.Whole.lean ====
/-
The body from its barrier to its last store: its printed parts one after the other, from what a device starts with to what it
ends with.
-/
module

public import proofs.«01_k».proof.Proof.KernelIdeal.Parts1
public import proofs.«01_k».proof.Proof.KernelIdeal.Parts2

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-- Something for each of the six steps. -/
def six (P : Fin 6 → sProp 𝕄) : sProp 𝕄 := iprop(P 0 ∗ P 1 ∗ P 2 ∗ P 3 ∗ P 4 ∗ P 5)
omit [FloatOps F] in
theorem six_eq (P : Fin 6 → sProp 𝕄) : (bigSep Finset.univ fun s => P s) = six P := by
  rw [bigSep_univ_eq_bigSepL [0, 1, 2, 3, 4, 5] (by decide) (by decide)]
  simp only [bigSepL_cons_cons, bigSepL_singleton]
  rfl

/-- The staged operands, all five. -/
def opsOwn : sProp 𝕄 := iprop(xOwn m ρ c ∗ wqOwn m ρ c ∗ kOwn m ρ c ∗ vOwn m ρ c ∗ woOwn m ρ c)

/-- What a device starts its body with, besides what it holds before its barrier. -/
def given : sProp 𝕄 :=
  iprop(opsOwn m ρ c ∗ partAny (F := F) c ∗ outOwn m ρ c ∅
    ∗ six (stA (F := F) c false) ∗ six (stA (F := F) c true) ∗ six (fun s => ready (F := F) false s c) ∗ six (fun s => ready (F := F) true s c))

/-- All eight chunks of the result, in the order they are stored. -/
abbrev stored : Finset (Dev nD × Bool) :=
  insert (hop true c (2 : Fin 4).val, true) (insert (hop false c (2 : Fin 4).val, false) (insert (hop true c (1 : Fin 4).val, true)
    (insert (hop false c (1 : Fin 4).val, false) (insert (hop true c (0 : Fin 4).val, true) (insert (hop false c (0 : Fin 4).val, false)
      (insert (hop true c (3 : Fin 4).val, true) (insert (hop false c (3 : Fin 4).val, false) ∅)))))))
theorem stored_eq : stored c = Finset.univ := by revert c; decide

/-- What it ends its body with. -/
def final : sProp 𝕄 :=
  iprop(opsOwn m ρ c ∗ partOwn m ρ c ∗ outOwn m ρ c (stored c) ∗ atPos ER (barCell c) (0 + 1) ∅ 0
    ∗ six (stS m ρ c false) ∗ six (stS m ρ c true) ∗ six (rvS m ρ c false) ∗ six (rvS m ρ c true)
    ∗ six (fun s => over (F := F) false s c) ∗ six (fun s => over (F := F) true s c) ∗ owing (F := F) c 12)

theorem passed_eq : passed (F := F) c = iprop(atPos ER (barCell c) (0 + 1) ∅ 0 ∗ six (rvA (F := F) c false) ∗ six (rvA (F := F) c true) ∗ owing (F := F) c 0) := by
  unfold passed barPay
  rw [six_eq (rvA (F := F) c false), six_eq (rvA (F := F) c true)]

theorem body {Q : PUnit → sProp 𝕄} :
    env m ρ K ⊢ iprop(before (F := F) c -∗ given m ρ c -∗ (final m ρ c -∗ Q ⟨⟩) -∗ WP c (atArgs (cc0_body (F := F))) Q) := by
  simp only [atArgs, cc0_body_eq_skeleton]; unfold cc0_body_skel
  simp only [k0_part31_eq_skeleton]; unfold k0_part31_skel
  simp only [WP, wp_bind]
  unfold given six opsOwn
  iintro #HE HB ⟨⟨HX, HQ, HK, HV, HW⟩, Hp, HY, ⟨A0, A1, A2, A3, A4, A5⟩, ⟨B0, B1, B2, B3, B4, B5⟩, ⟨Tf0, Tf1, Tf2, Tf3, Tf4, Tf5⟩, ⟨Tt0, Tt1, Tt2, Tt3, Tt4, Tt5⟩⟩ Hk
  iapply (part1 m ρ K c) $$ HE HB; iintro %_ %_ %_ %_ HP
  try simp only [wp_bind]
  ihave HP := (Entails.of_eq (passed_eq c)) $$ HP
  unfold six
  icases HP with ⟨HA, ⟨Lf0, Lf1, Lf2, Lf3, Lf4, Lf5⟩, ⟨Lt0, Lt1, Lt2, Lt3, Lt4, Lt5⟩, HO⟩
  iapply (part2 m ρ c _) $$ HX HQ HW HK HV; iintro HX HQ HW HK HV
  try simp only [wp_bind]
  iapply (part3 m ρ c _ _ _) $$ HK HV; iintro HK HV
  try simp only [wp_bind]
  iapply (part4 m ρ c _ _ _ _) $$ HK HV; iintro HK HV
  try simp only [wp_bind]
  iapply (part5 m ρ c _ _ _ _ _ _ _ _ _) $$ HK HV; iintro HK HV
  try simp only [wp_bind]
  iapply (part6 m ρ c _ _ _ _) $$ HK HV; iintro HK HV
  try simp only [wp_bind]
  iapply (part7 m ρ c _ _ _) $$ HK HV; iintro HK HV
  try simp only [wp_bind]
  iapply (part8 m ρ c _ _ _ _ _ _ _ _ _ _ _) $$ HK HV; iintro HK HV
  try simp only [wp_bind]
  iapply (part9 m ρ c _) $$ Hp A0; iintro Hp S0
  try simp only [wp_bind]
  iapply (part10 m ρ K c _ _) $$ HE Hp S0 B0 Tf0 Tt0 Lf0 Lt0 HO; iintro Hp Tf0 Tt0 HO
  try simp only [wp_bind]
  iapply (part11 m ρ K c _ _) $$ HE Tf0 Tt0 HO; iintro %_ %_ Tf0 S0 R0 Tt0 U0 HO
  try simp only [wp_bind]
  iapply (part12 m ρ K c _ _ _) $$ HE Tt0 HO R0 Hp; iintro %_ %_ Tt0 V0 R0 Hp HO
  try simp only [wp_bind]
  iapply (part13 m ρ c _ _ _) $$ Hp A1 B1; iintro Hp S1 U1
  try simp only [wp_bind]
  iapply (part14 m ρ K c _ _) $$ HE S1 U1 Tf1 Tt1 Lf1 Lt1 HO; iintro Tf1 S1 Tt1 HO
  try simp only [wp_bind]
  iapply (part15 m ρ K c _ _) $$ HE Tf1 Tt1 HO; iintro %_ %_ Tf1 R1 Tt1 U1 V1 HO
  try simp only [wp_bind]
  iapply (part16 m ρ c _ _ _) $$ Hp V1 A2; iintro Hp V1 A2
  try simp only [wp_bind]
  iapply (part17 m ρ K c _ _) $$ HE A2 B2 Tf2 Tt2 Lf2 Lt2 HO; iintro Tf2 Tt2 HO
  try simp only [wp_bind]
  iapply (part18 m ρ K c _ _) $$ HE Tf2 Tt2 HO; iintro %_ %_ Tf2 S2 R2 Tt2 U2 HO
  try simp only [wp_bind]
  iapply (part19 m ρ K c _ _ _) $$ HE Tt2 HO R2 Hp; iintro %_ %_ Tt2 V2 R2 Hp HO
  try simp only [wp_bind]
  iapply (part20 m ρ c _ _ _) $$ Hp HY; iintro %_ %_ %_ %_ %_ Hp HY
  try simp only [wp_bind]
  iapply (part21 m ρ K c _ _ _ _ _ _ _) $$ HE HY A3 B3 Tf3 Lf3 HO; iintro %_ %_ HY U3 Tf3 HO
  try simp only [wp_bind]
  iapply (part22 m ρ K c _ _ _) $$ HE U3 Tf3 Tt3 Lt3 HO; iintro Tf3 S3 R3 Tt3 HO
  try simp only [wp_bind]
  iapply (part23 m ρ K c _ _) $$ HE Tt3 R3 HO; iintro %_ %_ Tt3 U3 V3 R3 HO
  try simp only [wp_bind]
  iapply (part24 m ρ c _ _ _) $$ HY R3 V3 A4; iintro HY R3 V3 S4
  try simp only [wp_bind]
  iapply (part25 m ρ K c _ _) $$ HE S4 B4 Tf4 Tt4 Lf4 Lt4 HO; iintro Tf4 Tt4 HO
  try simp only [wp_bind]
  iapply (part26 m ρ K c _ _) $$ HE Tf4 Tt4 HO; iintro Tf4 S4 R4 Tt4 U4 HO
  try simp only [wp_bind]
  iapply (part27 m ρ K c _) $$ HE Tt4 HO R4 HY; iintro %_ %_ %_ %_ Tt4 V4 R4 HY HO
  try simp only [wp_bind]
  iapply (part28 m ρ c _ _ _ _ _) $$ HY R4 V4 A5 B5; iintro HY R4 V4 S5 U5
  try simp only [wp_bind]
  iapply (part29 m ρ K c _ _) $$ HE S5 U5 Tf5 Tt5 Lf5 Lt5 HO; iintro Tf5 S5 Tt5 HO
  try simp only [wp_bind]
  iapply (part30 m ρ K c _ _) $$ HE Tf5 Tt5 HO; iintro %_ %_ Tf5 R5 Tt5 U5 V5 HO
  try simp only [wp_bind]
  simp only [Prog.lift, Prog.pure_eq_ret]
  iapply (step_outload m ρ c _) $$ HY; iintro %_ HY
  iapply (done c)
  iapply (step_out m ρ c _ false 2 rfl (off9_eq c 2)) $$ HY; iintro HY
  iapply (done c)
  iapply (step_load c (rvM true) 5 _) $$ V5; iintro V5
  iapply (done c)
  iapply (done c)
  iapply (step_outload m ρ c _) $$ HY; iintro %_ HY
  iapply (done c)
  rw [pay52_eq]
  iapply (step_out m ρ c _ true 2 rfl (off10_eq c 2)) $$ HY; iintro HY
  iapply (done c)
  iapply (done c)
  iapply Hk
  unfold final six opsOwn
  isplitl [HX HQ HK HV HW]
  · isplitl [HX]; · iexact HX
    isplitl [HQ]; · iexact HQ
    isplitl [HK]; · iexact HK
    isplitl [HV] <;> iassumption
  isplitl [Hp]; · iexact Hp
  isplitl [HY]; · iexact HY
  isplitl [HA]; · iexact HA
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [U0 U1 U2 U3 U4 U5]
  · isplitl [U0]; · iexact U0
    isplitl [U1]; · iexact U1
    isplitl [U2]; · iexact U2
    isplitl [U3]; · iexact U3
    isplitl [U4]; · iexact U4
    iexact U5
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [V0 V1 V2 V3 V4 V5]
  · isplitl [V0]; · iexact V0
    isplitl [V1]; · iexact V1
    isplitl [V2]; · iexact V2
    isplitl [V3]; · iexact V3
    isplitl [V4]; · iexact V4
    iexact V5
  isplitl [Tf0 Tf1 Tf2 Tf3 Tf4 Tf5]
  · isplitl [Tf0]; · iexact Tf0
    isplitl [Tf1]; · iexact Tf1
    isplitl [Tf2]; · iexact Tf2
    isplitl [Tf3]; · iexact Tf3
    isplitl [Tf4]; · iexact Tf4
    iexact Tf5
  isplitl [Tt0 Tt1 Tt2 Tt3 Tt4 Tt5]
  · isplitl [Tt0]; · iexact Tt0
    isplitl [Tt1]; · iexact Tt1
    isplitl [Tt2]; · iexact Tt2
    isplitl [Tt3]; · iexact Tt3
    isplitl [Tt4]; · iexact Tt4
    iexact Tt5
  iexact HO

end Cert.KernelIdeal.Ring
-- ==== Proof.KernelIdeal.Deal.lean ====
/-
How the launch deals out the ring's ghost state: every cell's invariant, each device's positions, the tokens of the duties it
pays, and the credits of what the others owe it.
-/
module

public import proofs.«01_k».proof.Proof.KernelIdeal.Whole

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the cells of a device -/

/-- Something for each transfer semaphore: a direction's departures and arrivals, then the other's. -/
def cross (P : Bool × Bool × Fin 6 → sProp 𝕄) : sProp 𝕄 :=
  iprop((six (fun s => P (false, false, s)) ∗ six (fun s => P (false, true, s)))
    ∗ (six (fun s => P (true, false, s)) ∗ six (fun s => P (true, true, s))))

omit [FloatOps F] in
theorem bigSep_bool (P : Bool → sProp 𝕄) : bigSep Finset.univ P = iprop(P false ∗ P true) :=
  bigSep_univ_eq_bigSepL [false, true] (by decide) (by decide) P
omit [FloatOps F] in
theorem cross_eq (P : Bool × Bool × Fin 6 → sProp 𝕄) : (bigSep Finset.univ fun x => P x) = cross P := by
  rw [bigSep_univ_prod, bigSep_bool, bigSep_univ_prod, bigSep_univ_prod, bigSep_bool, bigSep_bool, six_eq, six_eq, six_eq, six_eq]
  rfl
omit [FloatOps F] in
theorem six_sep (P Q : Fin 6 → sProp 𝕄) : six (fun s => iprop(P s ∗ Q s)) = iprop(six P ∗ six Q) := by
  rw [← six_eq, ← six_eq, ← six_eq, bigSep_sep']

omit [FloatOps F] in
/-- A device's cells: its barrier cell and the others. -/
theorem bigSep_cells (P : CI → sProp 𝕄) :
    (bigSep Finset.univ fun k => P k) = iprop(P none ∗ bigSep Finset.univ fun x => P (some x)) := by
  rw [BI.bigSep_univ_equiv (Equiv.optionEquivSumPUnit (Bool × Bool × Fin 6)).symm, BI.bigSep_univ_sum]
  have h1 : (bigSep (Finset.univ : Finset PUnit.{1}) fun u => P ((Equiv.optionEquivSumPUnit (Bool × Bool × Fin 6)).symm (Sum.inr u))) = P none :=
    bigSep_univ_eq_bigSepL [⟨⟩] (by decide) (by decide) _
  rw [h1]
  exact BI.Entails.antisymm BI.sep_comm BI.sep_comm

/-! ## The cells, the tokens -/

theorem kcell_injective : Function.Injective (kcell : Dev nD × CI → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some y => cases h2
  | some x => cases k' with
    | none => cases h2
    | some y => rw [dmaS_injective (SemLoc.dma.inj h2)]

def ringCells : Finset (GSem nD τ sig) := Finset.univ.map ⟨kcell, kcell_injective⟩

/-- The duties of a device's own cells: the two of its barrier, the one of each transfer semaphore. -/
abbrev DI : Type := Bool ⊕ (Bool × Bool × Fin 6)
abbrev tokOf (cj : Dev nD × DI) : GSem nD τ sig × ℕ × Bool := match cj.2 with
  | .inl d => (barCell cj.1, 0, d)
  | .inr x => (xCell cj.1 x, 0, false)
theorem tokOf_injective : Function.Injective (tokOf : Dev nD × DI → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  have h2 := congrArg (fun x : GSem nD τ sig × ℕ × Bool => (x.1.2, x.2.2)) h
  cases j with
  | inl d => cases j' with
    | inl d' => rw [show d = d' from congrArg Prod.snd h2]
    | inr y => cases congrArg Prod.fst h2
  | inr x => cases j' with
    | inl d' => cases congrArg Prod.fst h2
    | inr y => rw [dmaS_injective (SemLoc.dma.inj (congrArg Prod.fst h2))]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The kernel's own semaphores are those of its transfers. -/
def osem (x : Bool × Bool × Fin 6) : SemLoc sig := .dma (dmaS x)

/-- The duty tokens of a device's own cells. -/
def toks (c : Dev nD) : sProp 𝕄 :=
  iprop((bigSep Finset.univ fun d => dutyTok ER (barCell c) 0 d) ∗ bigSep Finset.univ fun x => dutyTok ER (xCell c x) 0 false)
/-- What the launch deals a device. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-- The device a transfer's end lands on: the sender for a departure, its peer for an arrival. -/
def lands (x : Bool × Bool × Fin 6) : Dev nD ≃ Dev nD := if x.2.1 then (ring x.1).symm else Equiv.refl _
/-- The tokens of the duties a device pays. -/
def payToks (c : Dev nD) : sProp 𝕄 :=
  iprop((bigSep Finset.univ fun d => dutyTok ER (barCell (ring d c)) 0 d) ∗ bigSep Finset.univ fun x => dutyTok ER (xCell (lands x c) x) 0 false)
/-- What stays with a device: its positions and these tokens. -/
def linear (c : Dev nD) : sProp 𝕄 :=
  iprop((bigSep Finset.univ fun k : CI => atPos ER (kcell (c, k)) 0 ∅ 0) ∗ payToks c)
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x => semVal (xCell c x) 0 := by
  unfold Pipeline.ownSems0; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_cells]
  iintro ⟨HX, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every token goes to the device that pays its duty. -/
theorem toks_around : (bigSep Finset.univ fun c : Dev nD => (toks c : sProp 𝕄)) = bigSep Finset.univ fun c : Dev nD => payToks c := by
  unfold toks payToks
  rw [bigSep_sep', bigSep_sep', BI.bigSep_univ_comm, BI.bigSep_univ_comm (fun (c : Dev nD) x => (dutyTok ER (xCell c x) 0 false : sProp 𝕄)),
    BI.bigSep_univ_comm (fun (c : Dev nD) d => (dutyTok ER (barCell (ring d c)) 0 d : sProp 𝕄)),
    BI.bigSep_univ_comm (fun (c : Dev nD) x => (dutyTok ER (xCell (lands x c) x) 0 false : sProp 𝕄)),
    bigSep_congr (fun (d : Bool) _ => BI.bigSep_univ_equiv (ring d) (fun c : Dev nD => (dutyTok ER (barCell c) 0 d : sProp 𝕄))),
    bigSep_congr (fun (x : Bool × Bool × Fin 6) _ => BI.bigSep_univ_equiv (lands x) (fun c : Dev nD => (dutyTok ER (xCell c x) 0 false : sProp 𝕄)))]

omit [FloatOps F] in
theorem keep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  have hG (c : Dev nD) (_ : c ∈ Finset.univ) : iprop(records m ρ K ∗ linear c) ⊢ G' m ρ c := by
    unfold G'
    iintro H
    iexists K
    iexact H
  iapply (keep_beside (R := records m ρ K) hG)
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_ne_r (c c' : Dev nD) (x : Bool × Bool × Fin 6) : barCell c ≠ xCell c' x := fun h => by cases congrArg Prod.snd h
theorem bar_eq_iff {a b : Dev nD} : Iff (barCell a = barCell b) (a = b) :=
  ⟨fun h => congrArg (fun g : GSem nD τ sig => g.1.1) h, fun h => h ▸ rfl⟩
theorem x_eq_iff {a b : Dev nD} {x y : Bool × Bool × Fin 6} : Iff (xCell a x = xCell b y) (a = b ∧ x = y) :=
  ⟨fun h => ⟨congrArg (fun g : GSem nD τ sig => g.1.1) h, dmaS_injective (SemLoc.dma.inj (congrArg Prod.snd h))⟩, fun h => by rw [h.1, h.2]⟩

theorem owed_bar (d c : Dev nD) : due₀ d (barCell c) () = (if d = peer true c then 1 else 0) + (if d = peer false c then 1 else 0) := by
  have h0 : due d 0 (barCell c) () = 0 := by
    by_contra hn
    obtain ⟨p, -, hp⟩ := due_pos (Nat.pos_of_ne_zero hn)
    exact bar_ne_r _ _ _ hp
  have hd (e : Bool) : (tallyAt (barCell (src e d)) () 1 : CellTallies nD τ sig Unit) (barCell c) () = if d = peer e c then 1 else 0 := by
    rw [tallyAt_apply]
    refine if_congr ⟨fun h => ?_, fun h => ⟨?_, rfl⟩⟩ rfl rfl
    · rw [bar_eq_iff.1 h.1, peer_src]
    · rw [h, src_peer]
  unfold due₀ due₁
  rw [Pi.add_apply, Finsupp.add_apply, Pi.add_apply, Finsupp.add_apply, h0, hd, hd, Nat.zero_add]

theorem owed_r (d c : Dev nD) (p : Bool × Fin 6) : due₀ d (rCell p.1 p.2 c) () = if d = src p.1 c then N else 0 := by
  have hb (c' : Dev nD) : (tallyAt (barCell c') () 1 : CellTallies nD τ sig Unit) (rCell p.1 p.2 c) () = 0 := by
    rw [tallyAt_apply, if_neg (fun h => bar_ne_r _ _ _ h.1.symm)]
  unfold due₀ due₁ due
  rw [Pi.add_apply, Finsupp.add_apply, Pi.add_apply, Finsupp.add_apply, hb, hb, Nat.add_zero,
    Finset.sum_apply, Finsupp.finsetSum_apply, Finset.filter_true_of_mem (fun _ _ => Nat.zero_le _), Finset.sum_eq_single p]
  · rw [tallyAt_apply]
    refine if_congr ⟨fun h => ?_, fun h => ⟨?_, rfl⟩⟩ rfl rfl
    · rw [(x_eq_iff.1 h.1).1, src_peer]
    · rw [h, peer_src]
  · intro q _ hq
    rw [tallyAt_apply, if_neg (fun h => hq ?_)]
    have := (x_eq_iff.1 h.1).2
    exact Prod.ext (congrArg Prod.fst this).symm (congrArg (fun y => y.2.2) this).symm
  · exact fun h => absurd (Finset.mem_univ _) h

theorem launch_bar (c : Dev nD) :
    tallyOn (barCell c) (launchCredit (Pipeline.owing due₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer true c) fun _ => 1, Finset.sum_ite_eq' Finset.univ (peer false c) fun _ => 1, if_pos (Finset.mem_univ _), if_pos (Finset.mem_univ _)]

theorem launch_r (c : Dev nD) (p : Bool × Fin 6) :
    tallyOn (rCell p.1 p.2 c) (launchCredit (Pipeline.owing due₀) 0 (rCell p.1 p.2 c)) = (tallyAt (rCell p.1 p.2 c) () N : CellTallies nD τ sig Unit) := by
  unfold tallyAt; refine congrArg _ (Finsupp.ext fun u => ?_); cases u
  rw [Pipeline.launchCredit_owing, Finsupp.single_eq_same, Finset.sum_congr rfl fun d _ => owed_r d c p,
    Finset.sum_ite_eq' Finset.univ (src p.1 c) fun _ => N, if_pos (Finset.mem_univ _)]

/-- The arrivals' semaphores. -/
def arr : Bool × Fin 6 ↪ SemLoc sig := ⟨fun p => .dma (dmaS (p.1, true, p.2)), fun p q h => by
  have h' := dmaS_injective (SemLoc.dma.inj h)
  exact Prod.ext (congrArg (fun y => y.1) h') (congrArg (fun y => y.2.2) h')⟩

/-- What a device is owed: its barrier's two units, and every arrival. -/
def owed (c : Dev nD) : sProp 𝕄 :=
  iprop(cred (tallyAt (barCell c) () 2) ∗ six (fun s => cred (tallyAt (rCell false s c) () N)) ∗ six (fun s => cred (tallyAt (rCell true s c) () N)))

omit [FloatOps F] in
theorem creds (c : Dev nD) : (Pipeline.launchCred due₀ c : sProp 𝕄) ⊢ owed c := by
  unfold Pipeline.launchCred owed
  rw [bigSep_univ_at _ (SemLoc.reg barS), launch_bar]
  refine sep_mono_right ?_
  have hsub : Finset.univ.map arr ⊆ (Finset.univ : Finset (SemLoc sig)).erase (SemLoc.reg barS) := fun x hx => by
    obtain ⟨p, -, rfl⟩ := Finset.mem_map.1 hx
    exact Finset.mem_erase.2 ⟨(fun h => bar_ne_r c c (p.1, true, p.2) (congrArg (Prod.mk (c : Thread nD τ)) h.symm)), Finset.mem_univ _⟩
  refine (BI.bigSep_subset hsub).trans ?_
  have hr : (fun p : Bool × Fin 6 => (cred (tallyOn ((c : Thread nD τ), arr p) (launchCredit (Pipeline.owing due₀) 0 ((c : Thread nD τ), arr p))) : sProp 𝕄))
      = fun p => cred (tallyAt (rCell p.1 p.2 c) () N) := funext fun p => congrArg cred (launch_r c p)
  rw [bigSep_map, hr, bigSep_univ_prod, bigSep_bool, six_eq, six_eq]
  exact BI.Entails.refl _

end Cert.KernelIdeal.Ring
-- ==== Proof.KernelIdeal.Slots.lean ====
/-
An exchange buffer is its six slots.
-/
module

public import proofs.«01_k».proof.Proof.KernelIdeal.Setup

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem slot_disjoint {s s' : Fin 6} (h : s ≠ s') : Disjoint (slotR s).set (slotR s').set := by
  refine Rect.unit_disjoint 0 ?_
  have hs : s.val ≠ s'.val := fun e => h (Fin.ext e)
  show s.val + 1 ≤ s'.val ∨ s'.val + 1 ≤ s.val
  omega

theorem slot_cover (i : S6x2x128x384.Idx) : ∃ s : Fin 6, i ∈ (slotR s).set := by
  refine ⟨i 0, ?_⟩
  refine Rect.mem_set_unit.mpr fun a => ?_
  have := (i a).isLt
  match a with
  | ⟨0, _⟩ => exact ⟨le_rfl, Nat.lt_succ_self _⟩
  | ⟨1, _⟩ => exact ⟨Nat.zero_le _, this.trans_eq (Nat.zero_add _).symm⟩
  | ⟨2, _⟩ => exact ⟨Nat.zero_le _, this.trans_eq (Nat.zero_add _).symm⟩
  | ⟨3, _⟩ => exact ⟨Nat.zero_le _, this.trans_eq (Nat.zero_add _).symm⟩
  | ⟨_ + 4, h⟩ => exact absurd h (Nat.not_lt.2 (Nat.le_add_left _ _))

/-- A slot's elements, in the buffer. -/
abbrev slotSet (M : CM) (s : Fin 6) : Finset M.view.ty.Idx := (M.access (slotR s)).set

/-- The buffers that are cut into slots. -/
def Cut (M : CM) : Prop :=
  (∀ s s' : Fin 6, s ≠ s' → Disjoint (slotSet M s) (slotSet M s'))
    ∧ (Finset.univ.biUnion fun s : Fin 6 => slotSet M s) = Finset.univ

theorem cut_st (d : Bool) : Cut (stM d) := by
  cases d
  · have key : ∀ s, slotSet (stM false) s = (slotR s).set := fun s => View.set_slice_whole _ _
    exact ⟨fun s s' h => by rw [key, key]; exact slot_disjoint h,
      Finset.eq_univ_of_forall fun i => by
        obtain ⟨s, hs⟩ := slot_cover i
        exact Finset.mem_biUnion.mpr ⟨s, Finset.mem_univ _, by rw [key]; exact hs⟩⟩
  · have key : ∀ s, slotSet (stM true) s = (slotR s).set := fun s => View.set_slice_whole _ _
    exact ⟨fun s s' h => by rw [key, key]; exact slot_disjoint h,
      Finset.eq_univ_of_forall fun i => by
        obtain ⟨s, hs⟩ := slot_cover i
        exact Finset.mem_biUnion.mpr ⟨s, Finset.mem_univ _, by rw [key]; exact hs⟩⟩
theorem cut_rv (d : Bool) : Cut (rvM d) := by
  cases d
  · have key : ∀ s, slotSet (rvM false) s = (slotR s).set := fun s => View.set_slice_whole _ _
    exact ⟨fun s s' h => by rw [key, key]; exact slot_disjoint h,
      Finset.eq_univ_of_forall fun i => by
        obtain ⟨s, hs⟩ := slot_cover i
        exact Finset.mem_biUnion.mpr ⟨s, Finset.mem_univ _, by rw [key]; exact hs⟩⟩
  · have key : ∀ s, slotSet (rvM true) s = (slotR s).set := fun s => View.set_slice_whole _ _
    exact ⟨fun s s' h => by rw [key, key]; exact slot_disjoint h,
      Finset.eq_univ_of_forall fun i => by
        obtain ⟨s, hs⟩ := slot_cover i
        exact Finset.mem_biUnion.mpr ⟨s, Finset.mem_univ _, by rw [key]; exact hs⟩⟩

/-- The whole buffer at anything. -/
def bufAny (M : CM) (c : Dev nD) : sProp 𝕄 := iprop(∃ f : Buf (Elt F) (M.view.loc (c : Thread nD τ)), M.view.loc (c : Thread nD τ) ↦{fullShare} f)

omit [FloatOps F] in
theorem slot_of (M : CM) (s : Fin 6) (c : Dev nD) (f : Buf (Elt F) (M.view.loc (c : Thread nD τ))) :
    (M.view.loc (c : Thread nD τ) ↦[slotSet M s]{fullShare} f : sProp 𝕄) ⊢ slotAny (F := F) M s c := by
  unfold slotAny slotOwn
  iintro H
  iexists (M.access (slotR s)).read (Elt F) f
  iexists f
  isplitr [H]; rotate_left; iexact H
  ipureintro; rfl
omit [FloatOps F] in
theorem of_slot (M : CM) (s : Fin 6) (c : Dev nD) :
    slotAny (F := F) M s c ⊢ (∃ f : Buf (Elt F) (M.view.loc (c : Thread nD τ)), (M.view.loc (c : Thread nD τ) ↦[slotSet M s]{fullShare} f) : sProp 𝕄) := by
  unfold slotAny slotOwn
  iintro ⟨%v, %f, -, H⟩
  iexists f; iexact H

omit [FloatOps F] in
theorem slots_split (M : CM) (hM : Cut M) (c : Dev nD) : bufAny (F := F) M c ⊢ bigSep Finset.univ fun s : Fin 6 => slotAny (F := F) M s c := by
  unfold bufAny
  iintro ⟨%f, H⟩
  have h : (M.view.loc (c : Thread nD τ) ↦{fullShare} f : sProp 𝕄)
      = bigSep Finset.univ fun s : Fin 6 => (M.view.loc (c : Thread nD τ) ↦[slotSet M s]{fullShare} f : sProp 𝕄) := by
    rw [← hM.2]; exact pointsTo_biUnion _ _ fun s _ s' _ hs => hM.1 s s' hs
  ihave H' := (Entails.of_eq h) $$ H
  have h1 : (bigSep Finset.univ (fun s : Fin 6 => (M.view.loc (c : Thread nD τ) ↦[slotSet M s]{fullShare} f : sProp 𝕄)) : sProp 𝕄)
      ⊢ bigSep Finset.univ fun s : Fin 6 => slotAny (F := F) M s c := bigSep_mono fun s _ => slot_of M s c f
  iapply h1
  iexact H'

theorem slots_join (M : CM) (hM : Cut M) (c : Dev nD) : (bigSep Finset.univ fun s : Fin 6 => slotAny (F := F) M s c) ⊢ bufAny (F := F) M c := by
  haveI : Nonempty (Buf (Elt F) (M.view.loc (c : Thread nD τ))) := ⟨fun _ => Classical.choice (Elt.nonempty F _)⟩
  iintro H
  have h1 : (bigSep Finset.univ (fun s : Fin 6 => slotAny (F := F) M s c) : sProp 𝕄)
      ⊢ bigSep Finset.univ fun s : Fin 6 => iprop(∃ f : Buf (Elt F) (M.view.loc (c : Thread nD τ)), M.view.loc (c : Thread nD τ) ↦[slotSet M s]{fullShare} f) :=
    bigSep_mono fun s _ => of_slot M s c
  ihave H1 := h1 $$ H
  ihave H2 := (BI.bigSep_exists_pi Finset.univ (fun (s : Fin 6) (f : Buf (Elt F) (M.view.loc (c : Thread nD τ))) =>
    (M.view.loc (c : Thread nD τ) ↦[slotSet M s]{fullShare} f : sProp 𝕄))) $$ H1
  icases H2 with ⟨%fs, H2⟩
  ihave H3 := (pointsTo_biUnion_join (ℓ := M.view.loc (c : Thread nD τ)) (q := fullShare) Finset.univ (fun s : Fin 6 => slotSet M s) fs (fs 0)
    fun s _ s' _ hs => hM.1 s s' hs) $$ H2
  icases H3 with ⟨%g, -, H3⟩
  unfold bufAny
  iexists g
  rw [hM.2]
  iexact H3

end Cert.KernelIdeal.Ring
-- ==== Proof.KernelIdeal.Launch.lean ====
/-
The launch: the proof data of the one custom call, its body's obligation from what the launch dealt, and the run of @main.
-/
module

public import proofs.«01_k».proof.Proof.KernelIdeal.Deal
public import proofs.«01_k».proof.Proof.KernelIdeal.Slots
public import proofs.«01_k».proof.Proof.Gen.KernelIdeal.Points
public import Idealize.ShloMosaic.Adequacy
public import Idealize.ShloMosaic.Init

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The proof data -/

/-- The scratch buffers, holding anything. -/
def scratch (c : Dev nD) : sProp 𝕄 :=
  iprop(partAny (F := F) c ∗ bufAny (F := F) (stM false) c ∗ bufAny (F := F) (rvM false) c ∗ bufAny (F := F) (stM true) c ∗ bufAny (F := F) (rvM true) c)

/-- What a device's body starts from, -/
def start (c : Dev nD) : sProp 𝕄 := iprop(G' m ρ c ∗ owed (F := F) c ∗ levAts L lv)
def Φ₀ (c : Dev nD) : sProp 𝕄 := iprop(start m ρ c ∗ scratch (F := F) c)
/-- and what it leaves: every semaphore of its own and its barrier semaphore closed at zero. -/
def Φ₁ (c : Dev nD) : sProp 𝕄 :=
  iprop(scratch (F := F) c ∗ (bigSep Finset.univ fun x => semVal (xCell c x) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wqs m ρ c
    | ⟨2, _⟩ => ks m ρ c
    | ⟨3, _⟩ => vs m ρ c
    | ⟨4, _⟩ => wos m ρ c
    | ⟨5, _⟩ => out m ρ c
  Φ t := match t with
    | ⟨0, _⟩ => Φ₀ m ρ c
    | ⟨_ + 1, _⟩ => Φ₁ (F := F) c
  q _ := fullShare
  owed t := match t with
    | ⟨0, _⟩ => due₀ c
    | ⟨_ + 1, _⟩ => 0

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ (F := F) c ∗ (dats m ρ 0 c).owesAt () t₀.succ
    ∗ stg c cc0_stg0_0 (xs m ρ c) ∗ stg c cc0_stg1_0 (wqs m ρ c) ∗ stg c cc0_stg2_0 (ks m ρ c) ∗ stg c cc0_stg3_0 (vs m ρ c)
    ∗ stg c cc0_stg4_0 (wos m ρ c) ∗ stg c cc0_stg5_0 (out m ρ c))

/-! ## Into the body -/

theorem owes_in (c : Dev nD) : (dats m ρ 0 c).owesAt () t₀.castSucc ⊢ (∃ W, owes (c : Thread nD τ) (due₀ c) W : sProp 𝕄) := by
  unfold Dat.owesAt Pipeline.owesWithin
  iintro ⟨%W, %hW, HO⟩
  rw [show (dats m ρ 0 c).owed t₀.castSucc = due₀ c from rfl]
  iexists W
  iexact HO
theorem owes_out (c : Dev nD) : owing (F := F) c 12 ⊢ (dats m ρ 0 c).owesAt () t₀.succ := by
  unfold owing Dat.owesAt Pipeline.owesWithin
  rw [due_end]
  iintro ⟨%W, HO⟩
  iexists W
  isplitr; · ipureintro; exact fun _ _ => Or.inl trivial
  iexact HO

omit [FloatOps F] in
/-- What a device was dealt, sorted by transfer. -/
theorem sorted (c : Dev nD) : iprop(linear (F := F) c ∗ owed (F := F) c)
    ⊢ iprop((dutyTok ER (barCell (src false c)) 0 false ∗ dutyTok ER (barCell (src true c)) 0 true
        ∗ cred (tallyAt (barCell c) () 2) ∗ atPos ER (barCell c) 0 ∅ 0)
      ∗ six (fun s => ready (F := F) false s c) ∗ six (fun s => ready (F := F) true s c)) := by
  unfold linear payToks owed ready
  rw [bigSep_cells, cross_eq, cross_eq, bigSep_bool]
  simp only [six_sep]
  unfold cross
  iintro ⟨⟨⟨AB, ⟨As, Ar⟩, Bs, Br⟩, ⟨Df, Dt⟩, ⟨Es, Er⟩, Fs, Fr⟩, Cb, Cf, Ct⟩
  isplitl [AB Df Dt Cb]
  · isplitl [Df]; · iexact Df
    isplitl [Dt]; · iexact Dt
    isplitl [Cb]; · iexact Cb
    iexact AB
  isplitl [As Ar Es Er Cf]
  · isplitl [Es]; · iexact Es
    isplitl [Er]; · iexact Er
    isplitl [As]; · iexact As
    isplitl [Ar]; · iexact Ar
    iexact Cf
  · isplitl [Fs]; · iexact Fs
    isplitl [Fr]; · iexact Fr
    isplitl [Bs]; · iexact Bs
    isplitl [Br]; · iexact Br
    iexact Ct

/-- The staged operands. -/
theorem staged (c : Dev nD) (d0 d1 d2 d3 d4) :
    iprop(stg c cc0_stg0_0 ((dats m ρ 0 c).before (0 : Fin 6) t₀ d0) ∗ stg c cc0_stg1_0 ((dats m ρ 0 c).before (1 : Fin 6) t₀ d1)
      ∗ stg c cc0_stg2_0 ((dats m ρ 0 c).before (2 : Fin 6) t₀ d2) ∗ stg c cc0_stg3_0 ((dats m ρ 0 c).before (3 : Fin 6) t₀ d3)
      ∗ stg c cc0_stg4_0 ((dats m ρ 0 c).before (4 : Fin 6) t₀ d4)) ⊢ opsOwn m ρ c := by
  unfold opsOwn
  iintro ⟨⟨%f0, %h0, H0⟩, ⟨%f1, %h1, H1⟩, ⟨%f2, %h2, H2⟩, ⟨%f3, %h3, H3⟩, %f4, %h4, H4⟩
  have e0 : f0 = xs m ρ c := by rw [h0]; unfold Dat.before; rw [if_pos (fetch0_0 t₀)]; rfl
  have e1 : f1 = wqs m ρ c := by rw [h1]; unfold Dat.before; rw [if_pos (fetch0_1 t₀)]; rfl
  have e2 : f2 = ks m ρ c := by rw [h2]; unfold Dat.before; rw [if_pos (fetch0_2 t₀)]; rfl
  have e3 : f3 = vs m ρ c := by rw [h3]; unfold Dat.before; rw [if_pos (fetch0_3 t₀)]; rfl
  have e4 : f4 = wos m ρ c := by rw [h4]; unfold Dat.before; rw [if_pos (fetch0_4 t₀)]; rfl
  subst e0 e1 e2 e3 e4
  isplitl [H0]; · iexact H0
  isplitl [H1]; · iexact H1
  isplitl [H2]; · iexact H2
  isplitl [H3]; · iexact H3
  iexact H4
theorem unstaged (c : Dev nD) : opsOwn m ρ c
    ⊢ iprop(stg c cc0_stg0_0 (xs m ρ c) ∗ stg c cc0_stg1_0 (wqs m ρ c) ∗ stg c cc0_stg2_0 (ks m ρ c) ∗ stg c cc0_stg3_0 (vs m ρ c)
      ∗ stg c cc0_stg4_0 (wos m ρ c)) := by
  unfold opsOwn
  iintro ⟨H0, H1, H2, H3, H4⟩
  isplitl [H0]; · iexists _; isplitr; ipureintro; rfl; iexact H0
  isplitl [H1]; · iexists _; isplitr; ipureintro; rfl; iexact H1
  isplitl [H2]; · iexists _; isplitr; ipureintro; rfl; iexact H2
  isplitl [H3]; · iexists _; isplitr; ipureintro; rfl; iexact H3
  iexists _; isplitr; ipureintro; rfl; iexact H4

theorem out_in (c : Dev nD) (X) : stg c cc0_stg5_0 X ⊢ outOwn m ρ c ∅ := by
  unfold outOwn
  iintro ⟨%f, -, H⟩
  iexists f
  isplitr; · ipureintro; exact fun i h => absurd h (Finset.notMem_empty _)
  iexact H
theorem out_out (c : Dev nD) : outOwn m ρ c (stored c) ⊢ stg c cc0_stg5_0 (out m ρ c) := by
  unfold outOwn
  iintro ⟨%f, %hf, H⟩
  iexists f
  isplitr; · ipureintro; exact funext fun i => hf i (by rw [stored_eq]; exact Finset.mem_univ _)
  iexact H

/-! ## Out of the body -/

theorem slotAny_intro (M : CM) (s : Fin 6) (c : Dev nD) (v) : slotOwn (F := F) M s c v ⊢ slotAny (F := F) M s c := by
  unfold slotAny; iintro H; iexists v; iexact H

/-- The slots of a buffer, whatever they hold, are the buffer. -/
theorem joined (M : CM) (hM : Cut M) (c : Dev nD) (v : Fin 6 → Vec F S1x2x128x384 .bf16) : six (fun s => slotOwn (F := F) M s c (v s)) ⊢ bufAny (F := F) M c := by
  have h : (bigSep Finset.univ fun s : Fin 6 => slotOwn (F := F) M s c (v s) : sProp 𝕄) ⊢ bigSep Finset.univ fun s : Fin 6 => slotAny (F := F) M s c :=
    bigSep_mono fun s _ => slotAny_intro M s c (v s)
  rw [← six_eq]
  exact h.trans (slots_join M hM c)

/-- A cell whose round is over holds zero. -/
theorem closed (K : Dev nD × CI → ℕ) (ck : Dev nD × CI) :
    records m ρ K ⊢ iprop(atPos ER (kcell ck) (0 + 1) ∅ 0 -∗ |={Set.univ}=> semVal (kcell ck) 0) := by
  iintro #HR HA
  iapply (Rounds.cell_close ER (ringRd m ρ) (Set.mem_univ (K ck)) (fun h => h) (R := 0 + 1) (duties_later m ρ (kcell ck)))
  isplitr; · iapply (inv_at m ρ K ck); iexact HR
  iexact HA

theorem closed_all (K : Dev nD × CI → ℕ) (c : Dev nD) :
    records m ρ K ⊢ iprop((six (fun s => over (F := F) false s c) ∗ six (fun s => over (F := F) true s c))
      -∗ |={Set.univ}=> bigSep Finset.univ fun x => semVal (xCell c x) 0) := by
  have h : iprop(records m ρ K ∗ bigSep Finset.univ fun x => atPos ER (xCell c x) (0 + 1) ∅ 0)
      ⊢ (bigSep Finset.univ fun x => iprop(|={Set.univ}=> semVal (xCell c x) 0) : sProp 𝕄) :=
    keep_beside fun x _ => by
      iintro ⟨HR, HA⟩
      iapply (closed m ρ K (c, some x)) $$ HR HA
  unfold over
  simp only [six_sep]
  iintro #HR ⟨⟨A, B⟩, C, D⟩
  iapply (h.trans (bigSep_fupd _ _))
  isplitr; · iexact HR
  rw [cross_eq]
  unfold cross
  isplitl [A B]
  · isplitl [A] <;> iassumption
  · isplitl [C] <;> iassumption

theorem body_exit (K : Dev nD × CI → ℕ) (c : Dev nD) : records m ρ K ⊢ iprop(final m ρ c -∗ |={Set.univ}=> bodyPost m ρ c) := by
  unfold final bodyPost Φ₁ scratch
  iintro #HR ⟨HX, HP, HY, HB, Sf, St, Rf, Rt, Of, Ot, HO⟩
  imod (closed m ρ K (c, none)) $$ HR HB with HB
  imod (closed_all m ρ K c) $$ HR [Of Ot] with HZ
  · isplitl [Of] <;> iassumption
  imodintro
  isplitl [HP Sf St Rf Rt HB HZ]
  · isplitl [HP Sf St Rf Rt]
    · isplitl [HP]
      · unfold partOwn partAny
        iexists _; iexact HP
      isplitl [Sf]; · iapply (joined (stM false) (cut_st false) c _); iexact Sf
      isplitl [Rf]; · iapply (joined (rvM false) (cut_rv false) c _); iexact Rf
      isplitl [St]; · iapply (joined (stM true) (cut_st true) c _); iexact St
      iapply (joined (rvM true) (cut_rv true) c _); iexact Rt
    isplitl [HZ] <;> iassumption
  isplitl [HO]; · iapply (owes_out m ρ c); iexact HO
  ihave HX := (unstaged m ρ c) $$ HX
  icases HX with ⟨H0, H1, H2, H3, H4⟩
  isplitl [H0]; · iexact H0
  isplitl [H1]; · iexact H1
  isplitl [H2]; · iexact H2
  isplitl [H3]; · iexact H3
  isplitl [H4]; · iexact H4
  iapply (out_out m ρ c); iexact HY

theorem body_enter (K : Dev nD × CI → ℕ) (c : Dev nD) :
    iprop((linear (F := F) c ∗ owed (F := F) c) ∗ scratch (F := F) c ∗ (dats m ρ 0 c).owesAt () t₀.castSucc ∗ opsOwn m ρ c ∗ outOwn m ρ c ∅)
      ⊢ iprop(before (F := F) c ∗ given m ρ c) := by
  unfold scratch before given
  iintro ⟨HL, ⟨HP, Sf, Rf, St, Rt⟩, HO, HX, HY⟩
  ihave HL := (sorted (F := F) c) $$ HL
  icases HL with ⟨⟨Df, Dt, Cb, AB⟩, Tf, Tt⟩
  ihave Rf := (slots_split (rvM false) (cut_rv false) c) $$ Rf
  ihave Rt := (slots_split (rvM true) (cut_rv true) c) $$ Rt
  ihave Sf := (slots_split (stM false) (cut_st false) c) $$ Sf
  ihave St := (slots_split (stM true) (cut_st true) c) $$ St
  ihave HO := (owes_in m ρ c) $$ HO
  isplitl [Df Dt Cb AB Rf Rt HO]
  · isplitl [Df]; · iexact Df
    isplitl [Dt]; · iexact Dt
    isplitl [Rf]; · iexact Rf
    isplitl [Rt]; · iexact Rt
    isplitl [Cb]; · iexact Cb
    isplitl [AB]; · iexact AB
    iexact HO
  rw [← six_eq (stA (F := F) c false), ← six_eq (stA (F := F) c true)]
  isplitl [HX]; · iexact HX
  isplitl [HP]; · iexact HP
  isplitl [HY]; · iexact HY
  isplitl [Sf]; · iexact Sf
  isplitl [St]; · iexact St
  isplitl [Tf]; · iexact Tf
  iexact Tt

theorem body_sound (c : Dev nD) : bodyPre m ρ c ⊢ WP c (atArgs (cc0_body (F := F))) (fun _ => bodyPost m ρ c) := by
  unfold bodyPre Φ₀ start G'
  iintro ⟨⟨⟨⟨%K, #HR, HL⟩, HC, #HV⟩, HS⟩, HO, ⟨%d0, H0⟩, ⟨%d1, H1⟩, ⟨%d2, H2⟩, ⟨%d3, H3⟩, ⟨%d4, H4⟩, ⟨%d5, H5⟩⟩
  ihave HX := (staged m ρ c d0 d1 d2 d3 d4) $$ [H0 H1 H2 H3 H4]
  · isplitl [H0]; · iexact H0
    isplitl [H1]; · iexact H1
    isplitl [H2]; · iexact H2
    isplitl [H3]; · iexact H3
    iexact H4
  ihave HY := (out_in m ρ c _) $$ H5
  ihave HB := (body_enter m ρ K c) $$ [HL HC HS HO HX HY]
  · isplitl [HL HC]
    · isplitl [HL] <;> iassumption
    isplitl [HS]; · iexact HS
    isplitl [HO]; · iexact HO
    isplitl [HX] <;> iassumption
  icases HB with ⟨HB, HG⟩
  iapply (Idealize.SL.Sem.wp_fupd)
  iapply (body m ρ K c) $$ [] HB HG
  · unfold env
    isplitr; · iexact HR
    iexact HV
  iintro HF
  iapply (body_exit m ρ K c) $$ HR HF

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (atArgs (cc0_body (F := F))) (fun _ => bodyPost m ρ c)
  exact body_sound m ρ c

end Cert.KernelIdeal.Ring
-- ==== Proof.KernelIdeal.Run.lean ====
/-
The run of @main: every operand unchanged, every semaphore at zero, the result what the two rings leave.
-/
module

public import proofs.«01_k».proof.Proof.KernelIdeal.Launch
public import Idealize.ShloMosaic.Lib.Pipeline.ValueKit.Geometry
public import Idealize.ShloMosaic.Lib.Pipeline.CollectiveSegs
public import Idealize.ShloMosaic.Adequacy
public import Idealize.ShloMosaic.Init

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred due₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch partAny bufAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch partAny bufAny
  iintro ⟨Hr, HX, HB⟩
  isplitl [HB]; · iexact HB
  isplitl [HX]; · iexact HX
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := due₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held; the result's array holds the result. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _
theorem finalA_out (c : Dev nD) : finalA m ρ c (5 : Fin 6) = out m ρ c := by
  funext i
  exact ((dats (F := F) m ρ 0 c).arrAt_emb_eq_after_last (5 : Fin 6) t₀ (by decide +kernel) i).trans rfl

/-- What the run leaves in the printed program's own arrays. -/
theorem run : θ_run defs (onTc (τ := τ) (main (F := F))) ⟨m, fun _ => 0, ρ⟩ (fun r => (∀ c : Dev nD,
      r.2.mem ((c.tc : Thread nD τ).loc main_v1) = out m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
      ⟨(h.1 c (5 : Fin 6)).trans (finalA_out m ρ c), (h.1 c (0 : Fin 6)).trans (finalA_in m ρ c (0 : Fin 6) rfl),
        (h.1 c (1 : Fin 6)).trans (finalA_in m ρ c (1 : Fin 6) rfl), (h.1 c (2 : Fin 6)).trans (finalA_in m ρ c (2 : Fin 6) rfl),
        (h.1 c (3 : Fin 6)).trans (finalA_in m ρ c (3 : Fin 6) rfl), (h.1 c (4 : Fin 6)).trans (finalA_in m ρ c (4 : Fin 6) rfl)⟩, h.2⟩)
    (run_main m ρ)

end Cert.KernelIdeal.Ring
-- ==== Proof.Kernel.Same.lean ====
/-
The printed program and its reading over extended reals are one text: the printed program's run is an instance of the run
already shown for any float values.
-/
module

public import proofs.«01_k».proof.Proof.KernelIdeal.Run
public import proofs.«01_k».proof.Proof.Gen.Kernel

@[expose] public section

noncomputable section

namespace Cert.Kernel.Same
open Idealize.ShloMosaic Idealize.SL.Sem Cert.Kernel Cert.Kernel.Gen Cert.KernelIdeal.Gen

set_option maxRecDepth 100000

variable {F : FTy → Type} [FloatOps F]

theorem defs₀_eq : Cert.Kernel.defs₀ (F := F) = Cert.KernelIdeal.defs₀ (F := F) :=
  congrArg Defs.onTc (funext fun l => match l with
    | 0 => funext fun (t, s) => rfl
    | ⟨_ + 1, h⟩ => absurd h (Nat.not_lt.2 (Nat.le_add_left _ _)))
theorem defs_eq : Cert.Kernel.defs (F := F) = Cert.KernelIdeal.defs (F := F) := congrArg (Pipeline.defs pcfgs) defs₀_eq
theorem main_eq : Cert.Kernel.main (F := F) = Cert.KernelIdeal.main (F := F) := rfl

theorem run (m : (ℓ : Loc nD τ sig) → Buf (Elt F) ℓ) (ρ : Dev nD → PrngReg) : θ_run (Cert.Kernel.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [defs_eq, main_eq]
  exact (θ_run (Cert.KernelIdeal.defs (F := F)) _ _).mono (fun r h => ⟨fun c => (h.1 c).2, h.2⟩) (Cert.KernelIdeal.Ring.run (F := F) m ρ)

end Cert.Kernel.Same
-- ==== Proof.Value.Attend.lean ====
/-
One row of masked attention over the extended reals, twice: as the weights' exponentials, masked, summed against the values and
divided once at the end; and as a softmax that subtracts the row's maximum, whose masked scores are −∞. Where the scores are
real and the mask keeps at least one of them the two agree, whatever the values are.
-/
module

public import Idealize.ShloMosaic.Lib.Pointwise
public import Idealize.ShloMosaic.Lib.Routing.OpsOrder

@[expose] public section

noncomputable section

namespace Cert.Attend

open Idealize.ShloMosaic

/-! ## Scalars -/

theorem ofBits_eighth : Ideal.ofBits .f32 0x3E000000#32 = ((1 / 8 : ℝ) : EReal) := by
  simp [Ideal.ofBits, Ideal.ieee, -EReal.coe_mul]; norm_num
theorem ofBits_negInf : Ideal.ofBits .f32 0xFF800000#32 = ⊥ := by
  simp [Ideal.ofBits, Ideal.ieee]

/-- The coercion of the reals goes through a finite sum. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A real factor that is not negative goes through a finite sum of extended reals. -/
theorem sum_mul_coe {ι : Type} [DecidableEq ι] (s : Finset ι) (f : ι → EReal) {r : ℝ} (hr : 0 ≤ r) :
    (∑ i ∈ s, f i) * (r : EReal) = ∑ i ∈ s, f i * (r : EReal) := by
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-! ## The two forms of a row -/

variable {n : ℕ}

/-- A kept score, or −∞. -/
def masked (p : Fin n → BitVec 1) (s : Fin n → EReal) (j : Fin n) : EReal := Scalar.select (p j) (s j) ⊥
/-- The largest kept score. -/
def top (p : Fin n → BitVec 1) (s : Fin n → EReal) : EReal := Finset.fold max ⊥ (fun j => masked p s j) Finset.univ
/-- Whether the row keeps a score at all. -/
def kept (p : Fin n → BitVec 1) : BitVec 1 := Finset.fold IntOp.ori (0#1) (fun j => p j) Finset.univ

/-- The row with the exponentials divided by their sum at the end. -/
def late (p : Fin n → BitVec 1) (s v : Fin n → EReal) : EReal :=
  Ideal.div (∑ j, Ideal.exp (s j) * Scalar.select (p j) (1 : EReal) 0 * v j) (∑ j, Ideal.exp (s j) * Scalar.select (p j) (1 : EReal) 0)

/-- The row as a softmax that subtracts the maximum. -/
def soft (p : Fin n → BitVec 1) (s v : Fin n → EReal) : EReal :=
  ∑ j, v j * Scalar.select (kept p) (Ideal.div (Ideal.exp (masked p s j - top p s))
    (Scalar.select (kept p) (∑ k, Ideal.exp (masked p s k - top p s)) 1)) 0

theorem select_one {α : Type} (x y : α) : Scalar.select (1#1) x y = x := rfl
theorem select_zero {α : Type} (x y : α) : Scalar.select (0#1) x y = y := rfl

theorem kept_eq (p : Fin n → BitVec 1) (j₀ : Fin n) (h : p j₀ = 1#1) : kept p = 1#1 :=
  (Routing.fold_ori _ _).2 ⟨j₀, Finset.mem_univ _, h⟩

/-- The largest kept score is real. -/
theorem top_real (p : Fin n → BitVec 1) (s : Fin n → ℝ) (j₀ : Fin n) (h : p j₀ = 1#1) : ∃ M : ℝ, top p (fun j => (s j : EReal)) = M := by
  have hb : top p (fun j => (s j : EReal)) ≠ ⊥ := by
    refine ne_of_gt (lt_of_lt_of_le (EReal.bot_lt_coe (s j₀)) ?_)
    refine (Finset.le_fold_max _).2 (.inr ⟨j₀, Finset.mem_univ _, ?_⟩)
    rw [masked, h, select_one]
  have ht : top p (fun j => (s j : EReal)) ≠ ⊤ := by
    refine ne_of_lt ((Finset.fold_max_lt _).2 ⟨bot_lt_top, fun j _ => ?_⟩)
    rw [masked]
    rcases BitVec.eq_zero_or_eq_one (p j) with hj | hj <;> rw [hj]
    · exact bot_lt_top
    · exact EReal.coe_lt_top _
  exact ⟨_, (EReal.coe_toReal ht hb).symm⟩

/-- The two forms agree where the scores are real and one of them is kept. -/
theorem late_eq_soft (p : Fin n → BitVec 1) (s : Fin n → ℝ) (v : Fin n → EReal) (j₀ : Fin n) (h : p j₀ = 1#1) :
    late p (fun j => (s j : EReal)) v = soft p (fun j => (s j : EReal)) v := by
  obtain ⟨M, hM⟩ := top_real p s j₀ h
  let e : Fin n → ℝ := fun j => Real.exp (s j) * Scalar.select (p j) 1 0
  have he0 : ∀ j, 0 ≤ e j := fun j => by
    show 0 ≤ Real.exp (s j) * Scalar.select (p j) 1 0
    rcases BitVec.eq_zero_or_eq_one (p j) with hj | hj <;> rw [hj]
    · rw [select_zero, mul_zero]
    · rw [select_one, mul_one]; exact (Real.exp_pos _).le
  have hD : 0 < ∑ j, e j := Finset.sum_pos' (fun j _ => he0 j) ⟨j₀, Finset.mem_univ _, by
    show 0 < Real.exp (s j₀) * Scalar.select (p j₀) 1 0
    rw [h, select_one, mul_one]; exact Real.exp_pos _⟩
  have hl : ∀ j, Ideal.exp ((s j : ℝ) : EReal) * Scalar.select (p j) (1 : EReal) 0 = (e j : EReal) := fun j => by
    show Ideal.exp ((s j : ℝ) : EReal) * Scalar.select (p j) (1 : EReal) 0 = ((Real.exp (s j) * Scalar.select (p j) 1 0 : ℝ) : EReal)
    rcases BitVec.eq_zero_or_eq_one (p j) with hj | hj <;> rw [hj]
    · simp [select_zero]
    · simp [select_one]
  have hr : ∀ j, Ideal.exp (masked p (fun j => (s j : EReal)) j - (M : EReal)) = ((e j * Real.exp (-M) : ℝ) : EReal) := fun j => by
    show _ = ((Real.exp (s j) * Scalar.select (p j) 1 0 * Real.exp (-M) : ℝ) : EReal)
    rw [masked]
    rcases BitVec.eq_zero_or_eq_one (p j) with hj | hj <;> rw [hj]
    · rw [select_zero, select_zero, EReal.bot_sub, Ideal.exp_bot, mul_zero, zero_mul, EReal.coe_zero]
    · rw [select_one, select_one, ← EReal.coe_sub, Ideal.exp_coe, mul_one, ← Real.exp_add, sub_eq_add_neg]
  have hx : (0 : ℝ) < Real.exp (-M) := Real.exp_pos _
  rw [late, soft]
  simp only [hM, kept_eq p j₀ h, select_one, hl, hr, ← coe_sum]
  rw [Ideal.div_coe hD.ne', sum_mul_coe _ _ (by positivity)]
  refine Finset.sum_congr rfl fun j _ => ?_
  rw [← Finset.sum_mul, Ideal.div_coe (mul_pos hD hx).ne', mul_comm (e j : EReal) (v j), mul_assoc, ← EReal.coe_mul, ← EReal.coe_mul]
  congr 2
  field_simp

/-! ## The window -/

/-- Whether positions `i` and `j` are at most 128 apart. -/
def near (i j : Fin 512) : BitVec 1 :=
  IntOp.cmpi .sle (IntOp.absi (IntOp.subi (BitVec.ofNat 32 i.val) (BitVec.ofNat 32 j.val))) 128#32

theorem near_self (i : Fin 512) : near i i = 1#1 := by revert i; decide +kernel

end Cert.Attend
-- ==== Proof.Value.Heads.lean ====
/-
What one device computes by itself, over the extended reals: eight heads of masked attention for each batch, each from 64 of
its columns of the queries, side by side, times its 512 rows of the output projection.
-/
module

public import proofs.«01_k».proof.Proof.KernelIdeal.Setup
public import proofs.«01_k».proof.Proof.Value.Attend

@[expose] public section

noncomputable section

namespace Cert.KernelIdeal.Ring

open Cert.KernelIdeal Cert.KernelIdeal.Gen
open Idealize.ShloMosaic

local notation "𝔽" => Idealize.ShloMosaic.Ideal

/-- A query column scaled by one eighth. -/
def query (wq : Vec 𝔽 S768x512 .f32) (x : Vec 𝔽 S2x512x768 .f32) (b : Fin 2) (i : Fin 512) (t : Fin 512) : EReal :=
  (∑ e : Fin 768, x (ix3 b i e) * wq (ix2 e t)) * ((1 / 8 : ℝ) : EReal)

/-- The column of head `h` that its coordinate `e` lies in. -/
abbrev col (h : Fin 8) (e : Fin 64) : Fin 512 := ⟨64 * h.val + e.val, by omega⟩

/-- The score of query `i` against key `j` in head `h`. -/
def score (wq : Vec 𝔽 S768x512 .f32) (x : Vec 𝔽 S2x512x768 .f32) (k : Vec 𝔽 S1x512x1x64 .f32) (b : Fin 2) (h : Fin 8) (i j : Fin 512) : EReal :=
  ∑ e : Fin 64, query wq x b i (col h e) * k (ix4 0 j 0 e)

/-- The attention of head `h` at query `i`, coordinate `d`. -/
def headVal (wq : Vec 𝔽 S768x512 .f32) (x : Vec 𝔽 S2x512x768 .f32) (k v : Vec 𝔽 S1x512x1x64 .f32) (b : Fin 2) (h : Fin 8) (i : Fin 512) (d : Fin 64) : EReal :=
  Attend.late (Attend.near i) (score wq x k b h i) (fun j => v (ix4 0 j 0 d))

theorem mask_apply (i j : Fin 512) : k0_pay2 (F := 𝔽) (ix2 i j) = Scalar.select (Attend.near i j) (1 : EReal) 0 := by
  pointwise [k0_pay2]
  rfl

theorem query_apply (wq : Vec 𝔽 S768x512 .f32) (x : Vec 𝔽 S2x512x768 .f32) (b : Fin 2) (i t : Fin 512) (r : Fin 1024) (hr : r.val = 512 * b.val + i.val) :
    k0_pay3 (F := 𝔽) wq x (ix2 r t) = query wq x b i t := by
  have h1 : (⟨r.val / 512, by omega⟩ : Fin 2) = b := Fin.ext (by show r.val / 512 = b.val; omega)
  have h2 : (⟨r.val % 512, by omega⟩ : Fin 512) = i := Fin.ext (by show r.val % 512 = i.val; omega)
  have key : ∀ (b' : Fin 2) (i' : Fin 512), b' = b → i' = i →
      (∑ e : Fin 768, x (ix3 b' i' e) * wq (ix2 e t)) * Ideal.ofBits .f32 0x3E000000#32 = query wq x b i t := by
    rintro _ _ rfl rfl
    rw [Attend.ofBits_eighth]
    rfl
  pointwise [k0_pay3]
  exact key _ _ h1 h2

theorem slice_ok (b : Fin 2) (h : Fin 8) : S1024x512.Slices ![512 * b.val, 64 * h.val] S512x64 := by
  revert b h; decide

/-- The queries of a head. -/
abbrev headQ (q : FVec 𝔽 S1024x512 .f32) (b : Fin 2) (h : Fin 8) : FVec 𝔽 S512x64 .f32 :=
  extractStridedSlice S512x64 ![512 * b.val, 64 * h.val] q (slice_ok b h)
/-- A head as the body computes it. -/
abbrev headOf (q : FVec 𝔽 S1024x512 .f32) (k v : Fin 2 → Fin 8 → Vec 𝔽 S1x512x1x64 .f32) (b : Fin 2) (h : Fin 8) : FVec 𝔽 S512x64 .f32 :=
  k0_pay6 k0_pay2 (headQ q b h) (k b h) (v b h)

theorem headQ_apply (wq : Vec 𝔽 S768x512 .f32) (x : Vec 𝔽 S2x512x768 .f32) (b : Fin 2) (h : Fin 8) (i : Fin 512) (e : Fin 64) :
    headQ (k0_pay3 wq x) b h (ix2 i e) = query wq x b i (col h e) := by
  rw [← query_apply wq x b i (col h e) ⟨512 * b.val + i.val, by omega⟩ rfl]
  unfold headQ
  pointwise

theorem headOf_apply (wq : Vec 𝔽 S768x512 .f32) (x : Vec 𝔽 S2x512x768 .f32) (k v : Fin 2 → Fin 8 → Vec 𝔽 S1x512x1x64 .f32)
    (b : Fin 2) (h : Fin 8) (i : Fin 512) (d : Fin 64) :
    headOf (k0_pay3 wq x) k v b h (ix2 i d) = headVal wq x (k b h) (v b h) b h i d := by
  have hq := headQ_apply wq x b h i
  unfold headOf
  generalize headQ (k0_pay3 wq x) b h = q at hq ⊢
  pointwise [k0_pay6]
  simp only [mask_apply, hq]
  rfl

/-- A batch's eight heads side by side. -/
abbrev rowOfHeads (q : FVec 𝔽 S1024x512 .f32) (k v : Fin 2 → Fin 8 → Vec 𝔽 S1x512x1x64 .f32) (b : Fin 2) : FVec 𝔽 S512x512 .f32 :=
  concatenate S512x512 1 [⟨S512x64, headOf q k v b 0⟩, ⟨S512x64, headOf q k v b 1⟩, ⟨S512x64, headOf q k v b 2⟩, ⟨S512x64, headOf q k v b 3⟩,
    ⟨S512x64, headOf q k v b 4⟩, ⟨S512x64, headOf q k v b 5⟩, ⟨S512x64, headOf q k v b 6⟩, ⟨S512x64, headOf q k v b 7⟩]
    concatenates_S512x64_S512x64_S512x64_S512x64_S512x64_S512x64_S512x64_S512x64_S512x512_d1

/-- The composed payload, as a product of the stacked heads. -/
theorem proj_eq (wq : Vec 𝔽 S768x512 .f32) (wo : Vec 𝔽 S512x768 .f32) (x : Vec 𝔽 S2x512x768 .f32) (k v : Fin 2 → Fin 8 → Vec 𝔽 S1x512x1x64 .f32) :
    proj (F := 𝔽) wq wo x k v = matmul dot_S1024x512_S512x768_S1024x768_1_0_0_1_n_n none
      (concatenate S1024x512 0 [⟨S512x512, rowOfHeads (k0_pay3 wq x) k v 0⟩, ⟨S512x512, rowOfHeads (k0_pay3 wq x) k v 1⟩] concatenates_S512x512_S512x512_S1024x512_d0)
      (k0_pay1 wo) (constant S1024x768 .f32 0x00000000#32) := rfl

/-! ## Heads side by side, times the rows of the output projection -/

theorem rowOfHeads_apply (q : FVec 𝔽 S1024x512 .f32) (k v : Fin 2 → Fin 8 → Vec 𝔽 S1x512x1x64 .f32) (b : Fin 2) (h : Fin 8) (i : Fin 512) (d : Fin 64) :
    rowOfHeads q k v b (ix2 i (col h d)) = headOf q k v b h (ix2 i d) := by
  unfold rowOfHeads
  generalize headOf q k v b = f
  have hd := d.isLt
  have key : ∀ (g : FVec 𝔽 S512x64 .f32) (t : ℕ) (ht : t < 64), t = d.val → g (ix2 i ⟨t, ht⟩) = g (ix2 i d) := by
    rintro g _ _ rfl; rfl
  pointwise
  fin_cases h <;> simp only [] <;>
  · repeat (first | rw [dif_pos (by omega)] | rw [dif_neg (by omega)])
    exact key _ _ _ (by omega)

theorem stacked_apply (f : Fin 2 → FVec 𝔽 S512x512 .f32) (wo : Vec 𝔽 S512x768 .f32) (b : Fin 2) (i : Fin 512) (n : Fin 768) :
    matmul dot_S1024x512_S512x768_S1024x768_1_0_0_1_n_n none
      (concatenate S1024x512 0 [⟨S512x512, f 0⟩, ⟨S512x512, f 1⟩] concatenates_S512x512_S512x512_S1024x512_d0)
      (k0_pay1 (F := 𝔽) wo) (constant S1024x768 .f32 0x00000000#32) (ix2 ⟨b.val * 512 + i.val, by omega⟩ n)
      = ∑ t : Fin 512, (f b (ix2 i t) : EReal) * wo (ix2 t n) := by
  have hi := i.isLt
  pointwise [k0_pay1]
  refine Finset.sum_congr rfl fun t _ => congrArg (fun z : EReal => z * (wo (ix2 t n) : EReal)) ?_
  fin_cases b
  · rw [dif_pos (by simp)]
    simp
  · rw [dif_neg (by simp)]
    simp

/-- A sum over 512 columns, head by head. -/
theorem sum_col (f : Fin 512 → EReal) : ∑ t, f t = ∑ h : Fin 8, ∑ e : Fin 64, f (col h e) := by
  rw [← Fintype.sum_prod_type', ← Equiv.sum_comp (finProdFinEquiv (m := 8) (n := 64)) f]
  refine Finset.sum_congr rfl fun p _ => congrArg f (Fin.ext ?_)
  show p.2.val + 64 * p.1.val = 64 * p.1.val + p.2.val
  omega

/-- A device's partial product: over its heads and their coordinates, the attention times the output projection. -/
theorem proj_apply (wq : Vec 𝔽 S768x512 .f32) (wo : Vec 𝔽 S512x768 .f32) (x : Vec 𝔽 S2x512x768 .f32) (k v : Fin 2 → Fin 8 → Vec 𝔽 S1x512x1x64 .f32)
    (b : Fin 2) (i : Fin 512) (n : Fin 768) :
    proj (F := 𝔽) wq wo x k v (ix2 ⟨b.val * 512 + i.val, by omega⟩ n)
      = ∑ h : Fin 8, ∑ e : Fin 64, headVal wq x (k b h) (v b h) b h i e * wo (ix2 (col h e) n) := by
  rw [proj_eq, stacked_apply (fun b => rowOfHeads (k0_pay3 wq x) k v b), sum_col]
  refine Finset.sum_congr rfl fun h _ => Finset.sum_congr rfl fun e _ => ?_
  rw [rowOfHeads_apply, headOf_apply]

end Cert.KernelIdeal.Ring
-- ==== Proof.Value.Total.lean ====
/-
The result over the extended reals: whatever way a chunk took round the ring, every device ends with the sum of the four
devices' partial products.
-/
module

public import proofs.«01_k».proof.Proof.KernelIdeal.Setup
public import Idealize.ShloMosaic.Lib.Pointwise

@[expose] public section

noncomputable section

namespace Cert.KernelIdeal.Ring

open Cert.KernelIdeal Cert.KernelIdeal.Gen
open Idealize.ShloMosaic

local notation "𝔽" => Idealize.ShloMosaic.Ideal

/-! ## The slots' casts and sums -/

theorem toWire_apply (v : Vec 𝔽 S2x128x384 .f32) (b : Fin 2) (i : Fin 128) (n : Fin 384) :
    toWire (F := 𝔽) v (ix4 0 b i n) = v (ix3 b i n) := by
  unfold toWire
  pointwise [k0_pay27]
theorem fromWire_apply (w : Vec 𝔽 S1x2x128x384 .bf16) (b : Fin 2) (i : Fin 128) (n : Fin 384) :
    fromWire (F := 𝔽) w (ix3 b i n) = w (ix4 0 b i n) := by
  unfold fromWire
  pointwise [k0_pay30]
theorem again_apply (w : Vec 𝔽 S1x2x128x384 .bf16) (b : Fin 2) (i : Fin 128) (n : Fin 384) :
    again (F := 𝔽) w (ix4 0 b i n) = w (ix4 0 b i n) := by
  unfold again
  pointwise [k0_pay44]
theorem accum_apply (w : Vec 𝔽 S1x2x128x384 .bf16) (v : Vec 𝔽 S2x128x384 .f32) (b : Fin 2) (i : Fin 128) (n : Fin 384) :
    accum (F := 𝔽) w v (ix3 b i n) = (w (ix4 0 b i n) : EReal) + v (ix3 b i n) := by
  unfold accum
  pointwise [k0_pay29]

/-! ## Places on the ring -/

theorem hop_hop (d : Bool) (c : Dev nD) (a k : ℕ) : hop d (hop d c a) k = hop d c (a + k) := by
  apply Fin.ext
  cases d <;> simp [hop] <;> omega
theorem hop_src (d : Bool) (c : Dev nD) (k : ℕ) : hop d (src d c) k = hop d c (k + 1) := by
  rw [src, hop_hop, Nat.add_comm]
theorem hop_four (d : Bool) (c : Dev nD) (k : ℕ) : hop d c (k + 4) = hop d c k := by
  apply Fin.ext
  cases d <;> simp [hop] <;> omega
theorem hop_zero (d : Bool) (c : Dev nD) : hop d c 0 = c := by revert d c; decide
theorem dist_lt (d : Bool) (c j : Dev nD) : dist d c j < 4 := Nat.mod_lt _ (by decide)

/-- The devices are those met on the way from any one of them. -/
theorem sum_hop (d : Bool) (c : Dev nD) (f : Dev nD → EReal) :
    ∑ e, f e = f (src d (src d (src d c))) + f (src d (src d c)) + f (src d c) + f c := by
  let E : Fin 4 ≃ Dev nD := ⟨fun k => hop d c k.val, fun j => ⟨dist d c j, dist_lt d c j⟩,
    fun k => Fin.ext (dist_hop d c k), fun j => hop_dist d c j⟩
  rw [← Equiv.sum_comp E f, Fin.sum_univ_four]
  show f (hop d c 0) + f (hop d c 1) + f (hop d c 2) + f (hop d c 3) = _
  simp only [src, hop_hop, hop_zero, Nat.reduceAdd]
  ac_rfl

/-! ## The accumulation -/

variable (m : (ℓ : Loc nD τ sig) → Buf (Elt 𝔽) ℓ) (ρ : Dev nD → PrngReg)

theorem sent_zero_apply (d : Bool) (c : Dev nD) (b : Fin 2) (i : Fin 128) (n : Fin 384) :
    sent m ρ d 0 c (ix4 0 b i n) = chunkAt m ρ c (hop d c 0) d (ix3 b i n) := toWire_apply _ b i n
theorem sent_add_apply (d : Bool) (s : ℕ) (hs : s < 3) (c : Dev nD) (b : Fin 2) (i : Fin 128) (n : Fin 384) :
    sent m ρ d (s + 1) c (ix4 0 b i n) = (sent m ρ d s (src d c) (ix4 0 b i n) : EReal) + chunkAt m ρ c (hop d c (s + 1)) d (ix3 b i n) := by
  rw [sent, if_pos hs, toWire_apply, accum_apply]
theorem sent_again_apply (d : Bool) (s : ℕ) (hs : ¬ s < 3) (c : Dev nD) (b : Fin 2) (i : Fin 128) (n : Fin 384) :
    sent m ρ d (s + 1) c (ix4 0 b i n) = sent m ρ d s (src d c) (ix4 0 b i n) := by
  rw [sent, if_neg hs, again_apply]

/-- The sum over the devices of a chunk of their partial products. -/
def total (d : Bool) (j : Dev nD) (b : Fin 2) (i : Fin 128) (n : Fin 384) : EReal := ∑ e : Dev nD, chunkAt m ρ e j d (ix3 b i n)

/-- After three steps a chunk has been through every device. -/
theorem complete_apply (d : Bool) (c : Dev nD) (b : Fin 2) (i : Fin 128) (n : Fin 384) :
    (sent m ρ d 2 (src d c) (ix4 0 b i n) : EReal) + chunkAt m ρ c (hop d c 3) d (ix3 b i n) = total m ρ d (hop d c 3) b i n := by
  rw [total, sum_hop d c, sent_add_apply m ρ d 1 (by decide), sent_add_apply m ρ d 0 (by decide), sent_zero_apply]
  simp only [src, hop_hop, Nat.reduceAdd]

theorem sent_three_apply (d : Bool) (c : Dev nD) (b : Fin 2) (i : Fin 128) (n : Fin 384) :
    sent m ρ d 3 c (ix4 0 b i n) = total m ρ d (hop d c 3) b i n := by
  rw [sent_add_apply m ρ d 2 (by decide), complete_apply]

/-- Every chunk of the result is the sum over the devices. -/
theorem resAt_apply (d : Bool) (c : Dev nD) (t : ℕ) (ht : t < 4) (b : Fin 2) (i : Fin 128) (n : Fin 384) :
    resAt m ρ d c t (ix3 b i n) = total m ρ d (hop d c t) b i n := by
  rw [resAt]
  obtain rfl | rfl | rfl | rfl : t = 0 ∨ t = 1 ∨ t = 2 ∨ t = 3 := by omega
  · rw [if_pos (by decide), fromWire_apply, sent_three_apply, hop_src, hop_four]
  · rw [if_pos (by decide), fromWire_apply, sent_again_apply m ρ d 3 (by decide), sent_three_apply, hop_src, hop_src, hop_four]
  · rw [if_pos (by decide), fromWire_apply, sent_again_apply m ρ d 4 (by decide), sent_again_apply m ρ d 3 (by decide), sent_three_apply,
      hop_src, hop_src, hop_src, hop_four]
  · rw [if_neg (by decide), accum_apply, complete_apply]

/-! ## The result -/

theorem chunk_ld (off : Fin 3 → ℕ) (inb) (f : Vec 𝔽 S2x512x768 .f32) :
    (Memref.whole cc0_scratch0 : Memref sig .tc .vmem S2x512x768 .f32).view.readAt (Elt 𝔽) (Rect.unit (s := S2x512x768) off S2x128x384.size inb).toLoadRect f
      = View.ld (e' := .f32) (Val := Elt 𝔽) f (Rect.unit (s := S2x512x768) off S2x128x384.size inb) := View.readAt_eq_ld _ _ _

theorem chunkAt_apply (c : Dev nD) (j : Fin 4) (d : Bool) (b : Fin 2) (i : Fin 128) (n : Fin 384) :
    chunkAt m ρ c j d (ix3 b i n)
      = part m ρ c (ix3 b ⟨128 * j.val + i.val, by omega⟩ ⟨(if d then 384 else 0) + n.val, by split <;> omega⟩) := by
  unfold chunkAt
  rw [chunk_ld]
  generalize part m ρ c = f
  pointwise

theorem out_apply (c : Dev nD) (b : Fin 2) (i : Fin 512) (n : Fin 768) :
    out m ρ c (ix3 b i n) = ∑ e : Dev nD, (part m ρ e (ix3 b i n) : EReal) := by
  have hw : within (ix3 b i n) = ix3 (n0 := 2) (n1 := 128) (n2 := 384) b ⟨i.val % 128, Nat.mod_lt _ (by decide)⟩ ⟨n.val % 384, Nat.mod_lt _ (by decide)⟩ := by
    funext a
    fin_cases a <;> rfl
  rw [out, hw, resAt_apply m ρ _ _ _ (dist_lt _ _ _), hop_dist, total]
  refine Finset.sum_congr rfl fun e _ => ?_
  rw [chunkAt_apply]
  have h1 : 128 * (rowOf (ix3 b i n)).val + i.val % 128 = i.val := Nat.div_add_mod i.val 128
  have h2 : (if halfOf (ix3 b i n) then 384 else 0) + n.val % 384 = n.val := by
    show (if decide (384 ≤ n.val) then 384 else 0) + n.val % 384 = n.val
    have := n.isLt
    by_cases h : 384 ≤ n.val <;> simp [h] <;> omega
  simp only [h1, h2, Fin.eta]

end Cert.KernelIdeal.Ring
-- ==== Proof.Value.Loads.lean ====
/-
A device's partial product in terms of what its arguments hold: which entries of the arrays its loads take.
-/
module

public import proofs.«01_k».proof.Proof.Value.Heads
public import proofs.«01_k».proof.Proof.Value.Total

@[expose] public section

noncomputable section

namespace Cert.KernelIdeal.Ring

open Cert.KernelIdeal Cert.KernelIdeal.Gen
open Idealize.ShloMosaic

local notation "𝔽" => Idealize.ShloMosaic.Ideal

variable (m : (ℓ : Loc nD τ sig) → Buf (Elt 𝔽) ℓ) (ρ : Dev nD → PrngReg)

/-- An operand's window holds the operand. -/
theorem xs_eq (c : Dev nD) : xs m ρ c = m (c.tc.loc main_arg0) := by
  unfold xs s₀
  exact Memref.read_access_unit_zero (Elt 𝔽) main_arg0 (off := fun a => 0 * _) (by simp) _ _
theorem wqs_eq (c : Dev nD) : wqs m ρ c = m (c.tc.loc main_arg1) := by
  unfold wqs s₀
  exact Memref.read_access_unit_zero (Elt 𝔽) main_arg1 (off := fun a => 0 * _) (by simp) _ _
theorem ks_eq (c : Dev nD) : ks m ρ c = m (c.tc.loc main_arg2) := by
  unfold ks s₀
  exact Memref.read_access_unit_zero (Elt 𝔽) main_arg2 (off := fun a => 0 * _) (by simp) _ _
theorem vs_eq (c : Dev nD) : vs m ρ c = m (c.tc.loc main_arg3) := by
  unfold vs s₀
  exact Memref.read_access_unit_zero (Elt 𝔽) main_arg3 (off := fun a => 0 * _) (by simp) _ _
theorem wos_eq (c : Dev nD) : wos m ρ c = m (c.tc.loc main_arg4) := by
  unfold wos s₀
  exact Memref.read_access_unit_zero (Elt 𝔽) main_arg4 (off := fun a => 0 * _) (by simp) _ _

/-! ## What the loads take -/

theorem off1_val (c : Dev nD) : k0_off1 c = ![0, 512 * c.val] := by revert c; decide +kernel
theorem off2_val (c : Dev nD) : k0_off2 c = ![512 * c.val, 0] := by revert c; decide +kernel

/-- The global index of device `c`'s column or row `t`. -/
abbrev wide (c : Fin 4) (t : Fin 512) : Fin 2048 := ⟨512 * c.val + t.val, by omega⟩

theorem wq_ld (off : Fin 2 → ℕ) (inb) (f : Vec 𝔽 S768x2048 .f32) :
    (Memref.whole cc0_stg1_0 : Memref sig .tc .vmem S768x2048 .f32).view.readAt (Elt 𝔽) (Rect.unit (s := S768x2048) off S768x512.size inb).toLoadRect f
      = View.ld (e' := .f32) (Val := Elt 𝔽) f (Rect.unit (s := S768x2048) off S768x512.size inb) := View.readAt_eq_ld _ _ _
theorem wo_ld (off : Fin 2 → ℕ) (inb) (f : Vec 𝔽 S2048x768 .f32) :
    (Memref.whole cc0_stg4_0 : Memref sig .tc .vmem S2048x768 .f32).view.readAt (Elt 𝔽) (Rect.unit (s := S2048x768) off S512x768.size inb).toLoadRect f
      = View.ld (e' := .f32) (Val := Elt 𝔽) f (Rect.unit (s := S2048x768) off S512x768.size inb) := View.readAt_eq_ld _ _ _
theorem x_ld (off : Fin 3 → ℕ) (inb) (f : Vec 𝔽 S2x512x768 .f32) :
    (Memref.whole cc0_stg0_0 : Memref sig .tc .vmem S2x512x768 .f32).view.readAt (Elt 𝔽) (Rect.unit (s := S2x512x768) off S2x512x768.size inb).toLoadRect f
      = View.ld (e' := .f32) (Val := Elt 𝔽) f (Rect.unit (s := S2x512x768) off S2x512x768.size inb) := View.readAt_eq_ld _ _ _
theorem k_ld (off : Fin 4 → ℕ) (inb) (f : Vec 𝔽 S2x512x8x64 .f32) :
    (Memref.whole cc0_stg2_0 : Memref sig .tc .vmem S2x512x8x64 .f32).view.readAt (Elt 𝔽) (Rect.unit (s := S2x512x8x64) off S1x512x1x64.size inb).toLoadRect f
      = View.ld (e' := .f32) (Val := Elt 𝔽) f (Rect.unit (s := S2x512x8x64) off S1x512x1x64.size inb) := View.readAt_eq_ld _ _ _
theorem v_ld (off : Fin 4 → ℕ) (inb) (f : Vec 𝔽 S2x512x8x64 .f32) :
    (Memref.whole cc0_stg3_0 : Memref sig .tc .vmem S2x512x8x64 .f32).view.readAt (Elt 𝔽) (Rect.unit (s := S2x512x8x64) off S1x512x1x64.size inb).toLoadRect f
      = View.ld (e' := .f32) (Val := Elt 𝔽) f (Rect.unit (s := S2x512x8x64) off S1x512x1x64.size inb) := View.readAt_eq_ld _ _ _

theorem ldX_apply (c : Dev nD) (b : Fin 2) (i : Fin 512) (e : Fin 768) : ldX m ρ c (ix3 b i e) = m (c.tc.loc main_arg0) (ix3 b i e) := by
  unfold ldX
  rw [xs_eq, x_ld]
  pointwise
theorem ldWq_apply (c : Dev nD) (e : Fin 768) (t : Fin 512) : ldWq m ρ c (ix2 e t) = m (c.tc.loc main_arg1) (ix2 e (wide c t)) := by
  have key : ∀ (off : Fin 2 → ℕ) (inb) (f : Vec 𝔽 S768x2048 .f32), off = ![0, 512 * c.val] →
      View.ld (e' := .f32) (Val := Elt 𝔽) f (Rect.unit (s := S768x2048) off S768x512.size inb) (ix2 e t) = f (ix2 e (wide c t)) := by
    rintro _ inb f rfl
    pointwise
  unfold ldWq
  rw [wqs_eq, wq_ld]
  exact key _ _ _ (off1_val c)
theorem ldWo_apply (c : Dev nD) (t : Fin 512) (n : Fin 768) : ldWo m ρ c (ix2 t n) = m (c.tc.loc main_arg4) (ix2 (wide c t) n) := by
  have key : ∀ (off : Fin 2 → ℕ) (inb) (f : Vec 𝔽 S2048x768 .f32), off = ![512 * c.val, 0] →
      View.ld (e' := .f32) (Val := Elt 𝔽) f (Rect.unit (s := S2048x768) off S512x768.size inb) (ix2 t n) = f (ix2 (wide c t) n) := by
    rintro _ inb f rfl
    pointwise
  unfold ldWo
  rw [wos_eq, wo_ld]
  exact key _ _ _ (off2_val c)
theorem ldK_apply (c : Dev nD) (b : Fin 2) (h : Fin 8) (j : Fin 512) (e : Fin 64) : ldK m ρ c b h (ix4 0 j 0 e) = m (c.tc.loc main_arg2) (ix4 b j h e) := by
  unfold ldK
  rw [ks_eq, k_ld]
  pointwise
theorem ldV_apply (c : Dev nD) (b : Fin 2) (h : Fin 8) (j : Fin 512) (e : Fin 64) : ldV m ρ c b h (ix4 0 j 0 e) = m (c.tc.loc main_arg3) (ix4 b j h e) := by
  unfold ldV
  rw [vs_eq, v_ld]
  pointwise

/-! ## The partial product -/

/-- The arguments' entries on a device. -/
def X (c : Dev nD) (b : Fin 2) (i : Fin 512) (t : Fin 768) : EReal := m (c.tc.loc main_arg0) (ix3 b i t)
def Q (c : Dev nD) (t : Fin 768) (T : Fin 2048) : EReal := m (c.tc.loc main_arg1) (ix2 t T)
def K (c : Dev nD) (b : Fin 2) (j : Fin 512) (h : Fin 8) (a : Fin 64) : EReal := m (c.tc.loc main_arg2) (ix4 b j h a)
def V (c : Dev nD) (b : Fin 2) (j : Fin 512) (h : Fin 8) (a : Fin 64) : EReal := m (c.tc.loc main_arg3) (ix4 b j h a)
def O (c : Dev nD) (T : Fin 2048) (n : Fin 768) : EReal := m (c.tc.loc main_arg4) (ix2 T n)

/-- The score of query `i` against key `j` in a device's head `h`. -/
def scored (c : Dev nD) (b : Fin 2) (h : Fin 8) (i j : Fin 512) : EReal :=
  ∑ a : Fin 64, (∑ t : Fin 768, X m c b i t * Q m c t (wide c (col h a))) * ((1 / 8 : ℝ) : EReal) * K m c b j h a

/-- What a device computes at an index, from its arguments' entries. -/
theorem part_apply (c : Dev nD) (b : Fin 2) (i : Fin 512) (n : Fin 768) :
    part m ρ c (ix3 b i n) = ∑ h : Fin 8, ∑ e : Fin 64,
      Attend.late (Attend.near i) (scored m c b h i) (fun j => V m c b j h e) * O m c (wide c (col h e)) n := by
  have hp : part m ρ c (ix3 b i n) = projAt m ρ c (ix2 ⟨b.val * 512 + i.val, by omega⟩ n) := by
    unfold part
    generalize projAt m ρ c = g
    pointwise [k0_pay26]
  rw [hp, projAt, proj_apply]
  refine Finset.sum_congr rfl fun h _ => Finset.sum_congr rfl fun e _ => ?_
  have hs : score (ldWq m ρ c) (ldX m ρ c) (ldK m ρ c b h) b h i = scored m c b h i := by
    funext j
    simp only [score, query, ldX_apply, ldWq_apply, ldK_apply]
    rfl
  have hv : (fun j => ldV m ρ c b h (ix4 0 j 0 e)) = fun j => V m c b j h e := funext fun j => ldV_apply m ρ c b h j e
  rw [ldWo_apply, headVal, hs, hv]
  rfl

end Cert.KernelIdeal.Ring
-- ==== Proof.Value.Reference.lean ====
/-
What the reference computes at an index: the softmax of the masked scores against the values, times the output projection.
-/
module

public import proofs.«01_k».proof.Proof.Gen.ReferenceIdeal
public import proofs.«01_k».proof.Proof.Gen.ReferenceIdeal.Run
public import proofs.«01_k».proof.Proof.Value.Attend
public import Idealize.ShloMosaic.Lib.Tactic.CleanTypes

@[expose] public section

noncomputable section

namespace Cert.ReferenceIdeal.Value

open Cert.ReferenceIdeal Cert.ReferenceIdeal.Gen
open Idealize.ShloMosaic

local notation "𝔽" => Idealize.ShloMosaic.Ideal

variable (m : (ℓ : Loc nD τ sig) → Buf (Elt 𝔽) ℓ) (c : Dev nD)

/-! ## The arguments' entries -/

def X (b : Fin 2) (i : Fin 512) (t : Fin 768) : EReal := m (c.tc.loc main_arg0) (ix3 b i t)
def Q (t : Fin 768) (T : Fin 2048) : EReal := m (c.tc.loc main_arg1) (ix2 t T)
def K (b : Fin 2) (j : Fin 512) (H : Fin 32) (a : Fin 64) : EReal := m (c.tc.loc main_arg2) (ix4 b j H a)
def V (b : Fin 2) (j : Fin 512) (H : Fin 32) (a : Fin 64) : EReal := m (c.tc.loc main_arg3) (ix4 b j H a)
def O (T : Fin 2048) (n : Fin 768) : EReal := m (c.tc.loc main_arg4) (ix2 T n)

/-- The scaled score of query `i` against key `j` in head `H`. -/
def scaled (b : Fin 2) (H : Fin 32) (i j : Fin 512) : EReal :=
  (∑ a : Fin 64, (∑ t : Fin 768, X m c b i t * Q m c t ⟨H.val * 64 + a.val, by omega⟩) * K m c b j H a) * ((1 / 8 : ℝ) : EReal)

theorem negInf_const : (id (constant S_ .f32 4286578688#32) ix0 : 𝔽 .f32) = (⊥ : EReal) := Attend.ofBits_negInf
theorem one_const : (id (constant S_ .f32 1065353216#32) ix0 : 𝔽 .f32) = (1 : EReal) := Ideal.ofBits_one_f32
theorem zero_const : (id (constant S_ .f32 0#32) ix0 : 𝔽 .f32) = (0 : EReal) := Ideal.ofBits_zero_f32

set_option maxRecDepth 16384 in
theorem out_apply (b : Fin 2) (i : Fin 512) (n : Fin 768) :
    res_main_v34 (F := 𝔽) m c (ix3 b i n) = ∑ T : Fin 2048,
      Attend.soft (Attend.near i) (scaled m c b ⟨T.val / 64, by omega⟩ i)
        (fun j => V m c b j ⟨T.val / 64, by omega⟩ ⟨T.val % 64, by omega⟩)
      * O m c T n := by
  generalize hR : (∑ T : Fin 2048, _ : EReal) = R
  unfold res_main_v34
  clean_types
  pointwise
  simp only [negInf_const, one_const, zero_const, Attend.ofBits_negInf, Attend.ofBits_eighth]
  rw [← hR]
  simp only [Attend.soft, Attend.kept, Attend.masked, Attend.top, Attend.near, scaled, X, Q, K, V, O]

end Cert.ReferenceIdeal.Value
-- ==== Proof.Value.Finite.lean ====
/-
What the precondition says over the extended reals: the activations, the query projection and the keys are real numbers.
-/
module

public import proofs.«01_k».proof.Pre_finite_scores_KernelIdeal
public import Idealize.ShloMosaic.Lib.Pointwise

@[expose] public section

noncomputable section

namespace Cert.Finite

open Idealize.ShloMosaic

/-- An extended real that is a real number. -/
def Real (x : EReal) : Prop := ∃ r : ℝ, x = r

theorem Real.coe (r : ℝ) : Real (r : EReal) := ⟨r, rfl⟩
theorem Real.mul {x y : EReal} (hx : Real x) (hy : Real y) : Real (x * y) := by
  obtain ⟨r, rfl⟩ := hx
  obtain ⟨s, rfl⟩ := hy
  exact ⟨r * s, (EReal.coe_mul r s).symm⟩
theorem Real.add {x y : EReal} (hx : Real x) (hy : Real y) : Real (x + y) := by
  obtain ⟨r, rfl⟩ := hx
  obtain ⟨s, rfl⟩ := hy
  exact ⟨r + s, (EReal.coe_add r s).symm⟩
theorem Real.sum {ι : Type} [DecidableEq ι] (s : Finset ι) (f : ι → EReal) (h : ∀ i, Real (f i)) : Real (∑ i ∈ s, f i) := by
  induction s using Finset.induction_on with
  | empty => exact ⟨0, by simp⟩
  | insert a s ha ih => rw [Finset.sum_insert ha]; exact (h a).add ih

theorem ofBits_inf : Ideal.ofBits .f32 2139095040#32 = ⊤ := by
  simp [Ideal.ofBits, Ideal.ieee]

/-- A magnitude below infinity is that of a real number. -/
theorem real_of_lt {x : EReal} (h : BitVec.ofBool (decide (FloatOps.absf (F := Ideal) (φ := .f32) x < Ideal.ofBits .f32 2139095040#32)) = 1#1) : Real x := by
  have h' : FloatOps.absf (F := Ideal) (φ := .f32) x < ⊤ := by
    rw [ofBits_inf] at h
    by_contra hn
    rw [decide_eq_false hn] at h
    exact absurd h (by decide)
  induction x with
  | bot => exact absurd h' (by simp [FloatOps.absf])
  | top => exact absurd h' (by simp [FloatOps.absf])
  | coe r => exact Real.coe r

open Cert.Pre_finite_scores_KernelIdeal in
theorem real_args [Facts] (x : FVec Ideal S2x512x768 .f32) (q : FVec Ideal S768x2048 .f32) (k v : FVec Ideal S2x512x8x64 .f32)
    (o : FVec Ideal S2048x768 .f32) (h0 : (fn (F := Ideal) x q k v o).1 = fun _ => 1#1) (h1 : (fn (F := Ideal) x q k v o).2.1 = fun _ => 1#1)
    (h2 : (fn (F := Ideal) x q k v o).2.2 = fun _ => 1#1) :
    (∀ b i t, Real (x (ix3 b i t))) ∧ (∀ t T, Real (q (ix2 t T))) ∧ ∀ b j h a, Real (k (ix4 b j h a)) := by
  refine ⟨fun b i t => ?_, fun t T => ?_, fun b j h a => ?_⟩
  · have := congrFun h0 (ix3 b i t)
    pointwise [fn] at this
    exact real_of_lt this
  · have := congrFun h1 (ix2 t T)
    pointwise [fn] at this
    exact real_of_lt this
  · have := congrFun h2 (ix4 b j h a)
    pointwise [fn] at this
    exact real_of_lt this

end Cert.Finite
-- ==== Proof.Value.Equation.lean ====
/-
The equation: the sum of the devices' partial products is the reference's result. Device `e` has heads `8e` to `8e + 7`, so its
sum over heads and coordinates is a stretch of 512 of the reference's 2048 columns; term by term the two forms of attention agree.
-/
module

public import proofs.«01_k».proof.Defs
public import proofs.«01_k».proof.Proof.Value.Loads
public import proofs.«01_k».proof.Proof.Value.Reference
public import proofs.«01_k».proof.Proof.Value.Finite
public import Idealize.ShloMosaic.Lib.Layout

@[expose] public section

noncomputable section

namespace Cert.Equation

open Idealize.ShloMosaic
open Cert.KernelIdeal.Ring (wide col)
open Cert.Finite (Real)

local notation "𝔽" => Idealize.ShloMosaic.Ideal
abbrev KMem := (ℓ : Loc Cert.KernelIdeal.nD Cert.KernelIdeal.τ Cert.KernelIdeal.sig) → Buf (Elt Idealize.ShloMosaic.Ideal) ℓ
abbrev RMem := (ℓ : Loc Cert.ReferenceIdeal.nD Cert.ReferenceIdeal.τ Cert.ReferenceIdeal.sig) → Buf (Elt Idealize.ShloMosaic.Ideal) ℓ

/-- The reference's head that head `h` of device `e` is. -/
abbrev headAt (e : Fin 4) (h : Fin 8) : Fin 32 := ⟨8 * e.val + h.val, by omega⟩

/-- A sum over 2048 columns, device by device. -/
theorem sum_wide (f : Fin 2048 → EReal) : ∑ T, f T = ∑ e : Fin 4, ∑ t : Fin 512, f (wide e t) := by
  rw [← Fintype.sum_prod_type', ← Equiv.sum_comp (finProdFinEquiv (m := 4) (n := 512)) f]
  refine Finset.sum_congr rfl fun p _ => congrArg f (Fin.ext ?_)
  show p.2.val + 512 * p.1.val = 512 * p.1.val + p.2.val
  omega

/-- Where a block of the keys or values lies in the whole array. -/
theorem block_idx (T : Layout.Tiles ⟨4, ![2, 512, 8, 64]⟩ ⟨4, ![2, 512, 32, 64]⟩ 2 4) (e : Fin 4) (b : Fin 2) (j : Fin 512) (h : Fin 8) (a : Fin 64) :
    T.idx e (ix4 b j h a) = ix4 b j (headAt e h) a := by
  funext x
  fin_cases x <;> apply Fin.ext <;> simp [Layout.Tiles.idx_val]
  exact Nat.mul_comm _ _

/-- The kernel's devices hold the reference's arguments: all of three of them, and their heads of the keys and values. -/
structure Agree (m : KMem) (m' : RMem) : Prop where
  x : ∀ e b i t, Cert.KernelIdeal.Ring.X m e b i t = Cert.ReferenceIdeal.Value.X m' 0 b i t
  q : ∀ e t T, Cert.KernelIdeal.Ring.Q m e t T = Cert.ReferenceIdeal.Value.Q m' 0 t T
  k : ∀ e b j h a, Cert.KernelIdeal.Ring.K m e b j h a = Cert.ReferenceIdeal.Value.K m' 0 b j (headAt e h) a
  v : ∀ e b j h a, Cert.KernelIdeal.Ring.V m e b j h a = Cert.ReferenceIdeal.Value.V m' 0 b j (headAt e h) a
  o : ∀ e T n, Cert.KernelIdeal.Ring.O m e T n = Cert.ReferenceIdeal.Value.O m' 0 T n
  xr : ∀ e b i t, Real (Cert.KernelIdeal.Ring.X m e b i t)
  qr : ∀ e t T, Real (Cert.KernelIdeal.Ring.Q m e t T)
  kr : ∀ e b j h a, Real (Cert.KernelIdeal.Ring.K m e b j h a)

/-- The hypotheses of the claim give that. -/
theorem agree (m : KMem) (m' : RMem) [Cert.Pre_finite_scores_KernelIdeal.Facts] (hp : Cert.Pre_KernelIdeal_finite_scores_KernelIdeal m)
    (h0 : ∀ c : Dev Cert.KernelIdeal.nD, m (c.tc.loc Cert.KernelIdeal.main_arg0) = m' ((0 : Dev Cert.ReferenceIdeal.nD).tc.loc Cert.ReferenceIdeal.main_arg0))
    (h1 : ∀ c : Dev Cert.KernelIdeal.nD, m (c.tc.loc Cert.KernelIdeal.main_arg1) = m' ((0 : Dev Cert.ReferenceIdeal.nD).tc.loc Cert.ReferenceIdeal.main_arg1))
    (h2 : ∀ c : Dev Cert.KernelIdeal.nD, m (c.tc.loc Cert.KernelIdeal.main_arg2)
      = Layout.block ⟨4, ![2, 512, 8, 64]⟩ ⟨4, ![2, 512, 32, 64]⟩ 2 4 c (m' ((0 : Dev Cert.ReferenceIdeal.nD).tc.loc Cert.ReferenceIdeal.main_arg2)))
    (h3 : ∀ c : Dev Cert.KernelIdeal.nD, m (c.tc.loc Cert.KernelIdeal.main_arg3)
      = Layout.block ⟨4, ![2, 512, 8, 64]⟩ ⟨4, ![2, 512, 32, 64]⟩ 2 4 c (m' ((0 : Dev Cert.ReferenceIdeal.nD).tc.loc Cert.ReferenceIdeal.main_arg3)))
    (h4 : ∀ c : Dev Cert.KernelIdeal.nD, m (c.tc.loc Cert.KernelIdeal.main_arg4) = m' ((0 : Dev Cert.ReferenceIdeal.nD).tc.loc Cert.ReferenceIdeal.main_arg4)) :
    Agree m m' where
  x e b i t := congrFun (h0 e) (ix3 b i t)
  q e t T := congrFun (h1 e) (ix2 t T)
  k e b j h a := (congrFun (h2 e) (ix4 b j h a)).trans (congrArg (m' ((0 : Dev Cert.ReferenceIdeal.nD).tc.loc Cert.ReferenceIdeal.main_arg2)) (block_idx _ e b j h a))
  v e b j h a := (congrFun (h3 e) (ix4 b j h a)).trans (congrArg (m' ((0 : Dev Cert.ReferenceIdeal.nD).tc.loc Cert.ReferenceIdeal.main_arg3)) (block_idx _ e b j h a))
  o e T n := congrFun (h4 e) (ix2 T n)
  xr e b i t := (Cert.Finite.real_args _ _ _ _ _ (hp e).1 (hp e).2.1 (hp e).2.2).1 b i t
  qr e t T := (Cert.Finite.real_args _ _ _ _ _ (hp e).1 (hp e).2.1 (hp e).2.2).2.1 t T
  kr e b j h a := (Cert.Finite.real_args _ _ _ _ _ (hp e).1 (hp e).2.1 (hp e).2.2).2.2 b j h a

variable {m : KMem} {m' : RMem} (A : Agree m m')
include A

/-- The scores are real. -/
theorem scored_real (e : Fin 4) (b : Fin 2) (h : Fin 8) (i j : Fin 512) : Real (Cert.KernelIdeal.Ring.scored m e b h i j) :=
  Real.sum _ _ fun a => ((Real.sum _ _ fun t => (A.xr e b i t).mul (A.qr e t _)).mul (Real.coe _)).mul (A.kr e b j h a)

/-- Scaling the queries scales the scores. -/
theorem scored_eq (e : Fin 4) (b : Fin 2) (h : Fin 8) (i j : Fin 512) :
    Cert.KernelIdeal.Ring.scored m e b h i j = Cert.ReferenceIdeal.Value.scaled m' 0 b (headAt e h) i j := by
  have hw : ∀ a : Fin 64, wide e (col h a) = ⟨(headAt e h).val * 64 + a.val, by omega⟩ := fun a => Fin.ext (by
    show 512 * e.val + (64 * h.val + a.val) = (8 * e.val + h.val) * 64 + a.val
    omega)
  rw [Cert.KernelIdeal.Ring.scored, Cert.ReferenceIdeal.Value.scaled, Attend.sum_mul_coe _ _ (by norm_num)]
  refine Finset.sum_congr rfl fun a _ => ?_
  rw [mul_right_comm]
  simp only [A.x, A.q, A.k, hw]

/-- One term. -/
theorem term_eq (e : Fin 4) (b : Fin 2) (h : Fin 8) (i : Fin 512) (a : Fin 64) (n : Fin 768) (T : Fin 2048) (hT : T = wide e (col h a)) :
    Attend.late (Attend.near i) (Cert.KernelIdeal.Ring.scored m e b h i) (fun j => Cert.KernelIdeal.Ring.V m e b j h a) * Cert.KernelIdeal.Ring.O m e T n
      = Attend.soft (Attend.near i) (Cert.ReferenceIdeal.Value.scaled m' 0 b ⟨T.val / 64, by omega⟩ i)
          (fun j => Cert.ReferenceIdeal.Value.V m' 0 b j ⟨T.val / 64, by omega⟩ ⟨T.val % 64, by omega⟩) * Cert.ReferenceIdeal.Value.O m' 0 T n := by
  have hv : T.val = 512 * e.val + (64 * h.val + a.val) := by rw [hT]
  have h1 : (⟨T.val / 64, by omega⟩ : Fin 32) = headAt e h := Fin.ext (by show T.val / 64 = 8 * e.val + h.val; omega)
  have h2 : (⟨T.val % 64, by omega⟩ : Fin 64) = a := Fin.ext (by show T.val % 64 = a.val; omega)
  rw [h1, h2, A.o]
  have hs : Cert.ReferenceIdeal.Value.scaled m' 0 b (headAt e h) i = Cert.KernelIdeal.Ring.scored m e b h i := funext fun j => (scored_eq A e b h i j).symm
  choose r hr using fun j => scored_real A e b h i j
  rw [hs, show Cert.KernelIdeal.Ring.scored m e b h i = fun j => (r j : EReal) from funext hr,
    Attend.late_eq_soft _ _ _ i (Attend.near_self i)]
  simp only [A.v]

/-- The results agree at an index. -/
theorem out_eq_at (ρ : Dev Cert.KernelIdeal.nD → PrngReg) (c : Dev Cert.KernelIdeal.nD) (b : Fin 2) (i : Fin 512) (n : Fin 768) :
    Cert.KernelIdeal.Ring.out m ρ c (ix3 b i n) = Cert.ReferenceIdeal.Value.res_main_v34 (F := 𝔽) m' 0 (ix3 b i n) := by
  refine (Cert.KernelIdeal.Ring.out_apply m ρ c b i n).trans (Eq.trans ?_ (Cert.ReferenceIdeal.Value.out_apply m' 0 b i n).symm)
  rw [sum_wide]
  refine Finset.sum_congr rfl fun e _ => ?_
  rw [Cert.KernelIdeal.Ring.sum_col]
  refine (Cert.KernelIdeal.Ring.part_apply m ρ e b i n).trans ?_
  exact Finset.sum_congr rfl fun h _ => Finset.sum_congr rfl fun a _ => term_eq A e b h i a n _ rfl

/-- The kernel's result is the reference's. -/
theorem out_eq (ρ : Dev Cert.KernelIdeal.nD → PrngReg) (c : Dev Cert.KernelIdeal.nD) :
    Cert.KernelIdeal.Ring.out m ρ c = Cert.ReferenceIdeal.Value.res_main_v34 (F := 𝔽) m' 0 := by
  funext i
  have hi : i = ix3 (n0 := 2) (n1 := 512) (n2 := 768) (i 0) (i 1) (i 2) := eq_ix3 i
  rw [hi]
  exact out_eq_at A ρ c (i 0) (i 1) (i 2)

end Cert.Equation
-- ==== Proof.lean ====
module

public import proofs.«01_k».proof.Defs
public import proofs.«01_k».proof.Proof.Kernel.Same
public import proofs.«01_k».proof.Proof.KernelIdeal.Run
public import proofs.«01_k».proof.Proof.Value.Equation
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference has no semaphore. -/
theorem reference_sem (g : GSem Cert.ReferenceIdeal.nD Cert.ReferenceIdeal.τ Cert.ReferenceIdeal.sig) : False := by
  obtain ⟨t, q | q⟩ := g <;> exact absurd q.isLt (Nat.not_lt_zero _)

/-- The side conditions of the precondition, read of the kernel's blocks. -/
instance kernelPre : Cert.Pre_finite_scores_KernelIdeal.Facts := ⟨by decide, by decide, by decide⟩
/-- The side conditions of the precondition, read of the reference's arrays. -/
instance referencePre : Cert.Pre_finite_scores_ReferenceIdeal.Facts := ⟨by decide, by decide, by decide⟩

theorem claim : Cert.Claim := ⟨Cert.Kernel.Gen.facts, Cert.KernelIdeal.Gen.facts, Cert.ReferenceIdeal.Gen.facts,
  kernelPre, referencePre,
  fun m g _ => Cert.Kernel.Same.run m g,
  fun m g _ => (θ_run _ _ _).mono (fun r h => ⟨fun c => (h.1 c).2, h.2⟩) (Cert.KernelIdeal.Ring.run m g),
  fun m g _ => (θ_run _ _ _).mono (fun r h => ⟨fun c => (h.1 c).2, h.2⟩) (Cert.KernelIdeal.Ring.run m g),
  fun m g _ => (θ_run _ _ _).mono (fun r h => ⟨fun c => (h c).2, funext fun g => (reference_sem g).elim⟩) (Cert.ReferenceIdeal.Value.run m g),
  fun m g _ => (θ_run _ _ _).mono (fun r h => ⟨fun c => (h c).2, funext fun g => (reference_sem g).elim⟩) (Cert.ReferenceIdeal.Value.run m g),
  trivial,
  fun m g m' g' hp h => ⟨Cert.ReferenceIdeal.Value.res_main_v34 (F := Ideal) m' 0,
    (θ_run _ _ _).mono (fun r k c => ⟨(k.1 c).1.trans (Cert.Equation.out_eq (Cert.Equation.agree m m' hp (fun c => (h c).1) (fun c => (h c).2.1)
      (fun c => (h c).2.2.1) (fun c => (h c).2.2.2.1) (fun c => (h c).2.2.2.2)) g c), (k.1 c).2⟩) (Cert.KernelIdeal.Ring.run m g),
    (θ_run _ _ _).mono (fun r k => k 0) (Cert.ReferenceIdeal.Value.run m' g')⟩⟩

end Cert.Proof

end
